-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear_winner [hPre_clear_winner : Cert.Pre_clear_winner.Facts] (m : (ℓ : Loc Cert.KernelIdeal.nD Cert.KernelIdeal.τ Cert.KernelIdeal.sig) → Buf (Elt Ideal) ℓ) : Prop :=
  ∀ c : Dev Cert.KernelIdeal.nD,
    (Cert.Pre_clear_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_clear_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_clear_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_clear_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_winner [hPre_clear_winner : Cert.Pre_clear_winner.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_winner.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_clear_winner.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_clear_winner.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_clear_winner.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_clear_winner [hKernelIdeal : Cert.KernelIdeal.Facts] [hPre_clear_winner : Cert.Pre_clear_winner.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear_winner m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_clear_winner [hReferenceIdeal : Cert.ReferenceIdeal.Facts] [hPre_clear_winner : Cert.Pre_clear_winner.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_winner m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_clear_winner [hKernelIdeal : Cert.KernelIdeal.Facts] [hReferenceIdeal : Cert.ReferenceIdeal.Facts] [hPre_clear_winner : Cert.Pre_clear_winner.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear_winner m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_clear_winner : Cert.Pre_clear_winner.Facts),
    quiescent_Kernel (hKernel := hKernel)
    ∧ quiescent_KernelIdeal (hKernelIdeal := hKernelIdeal)
    ∧ quiescent_KernelIdeal_pre_clear_winner (hKernelIdeal := hKernelIdeal) (hPre_clear_winner := hPre_clear_winner)
    ∧ quiescent_ReferenceIdeal (hReferenceIdeal := hReferenceIdeal)
    ∧ quiescent_ReferenceIdeal_pre_clear_winner (hReferenceIdeal := hReferenceIdeal) (hPre_clear_winner := hPre_clear_winner)
    ∧ preserves_Kernel_KernelIdeal
    ∧ algebraic_KernelIdeal_ReferenceIdeal_pre_clear_winner (hKernelIdeal := hKernelIdeal) (hReferenceIdeal := hReferenceIdeal) (hPre_clear_winner := hPre_clear_winner)
-- ==== Pre_clear_winner.lean ====
abbrev S1024x4x2048 : Shape := ⟨3, ![1024, 4, 2048]⟩
abbrev S4x1024x4x200 : Shape := ⟨4, ![4, 1024, 4, 200]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S4x1024x2048x4 : Shape := ⟨4, ![4, 1024, 2048, 4]⟩
abbrev S1024x2048x4 : Shape := ⟨3, ![1024, 2048, 4]⟩
abbrev S1x1024x2048x4 : Shape := ⟨4, ![1, 1024, 2048, 4]⟩
abbrev S4 : Shape := ⟨1, ![4]⟩
abbrev S4x1024x2048 : Shape := ⟨3, ![4, 1024, 2048]⟩
abbrev S4x1024x2048x1 : Shape := ⟨4, ![4, 1024, 2048, 1]⟩
abbrev S1x1x1x4 : Shape := ⟨4, ![1, 1, 1, 4]⟩
abbrev S1x1x4x200 : Shape := ⟨4, ![1, 1, 4, 200]⟩

class Facts : Prop where
  bcast_S_S1 : S_.BroadcastsInDim S1 (![] : Fin 0 → Fin S1.rank)
  concatenates_S1_S1_S2_d0 : Shape.Concatenates [S1, S1] S2 0
  bcast_S_S1x1x1x1 : S_.BroadcastsInDim S1x1x1x1 (![] : Fin 0 → Fin S1x1x1x1.rank)
  slices_S2_S1_0 : S2.Slices ![0] S1
  shapeCasts_S1_S_ : S1.ShapeCasts S_
  slices_S2_S1_1 : S2.Slices ![1] S1
  bcast_S_S4x1024x2048x4 : S_.BroadcastsInDim S4x1024x2048x4 (![] : Fin 0 → Fin S4x1024x2048x4.rank)
  natLt_32_64 : 32 < 64
  bcast_S1x1x1x1_S4x1024x2048x4_0_1_2_3 : S1x1x1x1.BroadcastsInDim S4x1024x2048x4 (![0, 1, 2, 3] : Fin 4 → Fin S4x1024x2048x4.rank)
  transposes_S1024x4x2048_S1024x2048x4_0_2_1 : S1024x4x2048.Transposes [0, 2, 1] S1024x2048x4
  bcast_S1024x2048x4_S1x1024x2048x4_1_2_3 : S1024x2048x4.BroadcastsInDim S1x1024x2048x4 (![1, 2, 3] : Fin 3 → Fin S1x1024x2048x4.rank)
  bcast_S1x1024x2048x4_S4x1024x2048x4_0_1_2_3 : S1x1024x2048x4.BroadcastsInDim S4x1024x2048x4 (![0, 1, 2, 3] : Fin 4 → Fin S4x1024x2048x4.rank)
  reducesTo_S4x1024x2048x4_S4x1024x2048_d3 : S4x1024x2048x4.ReducesTo [3] S4x1024x2048
  h_S_ : 0 < S_.numel
  bcast_S4x1024x2048_S4x1024x2048x1_0_1_2 : S4x1024x2048.BroadcastsInDim S4x1024x2048x1 (![0, 1, 2] : Fin 3 → Fin S4x1024x2048x1.rank)
  bcast_S4_S1x1x1x4_3 : S4.BroadcastsInDim S1x1x1x4 (![3] : Fin 1 → Fin S1x1x1x4.rank)
  bcast_S1x1x1x4_S4x1024x2048x4_0_1_2_3 : S1x1x1x4.BroadcastsInDim S4x1024x2048x4 (![0, 1, 2, 3] : Fin 4 → Fin S4x1024x2048x4.rank)
  bcast_S4x1024x2048x1_S4x1024x2048x4_0_1_2_3 : S4x1024x2048x1.BroadcastsInDim S4x1024x2048x4 (![0, 1, 2, 3] : Fin 4 → Fin S4x1024x2048x4.rank)
  bcast_S_S4x1024x2048x1 : S_.BroadcastsInDim S4x1024x2048x1 (![] : Fin 0 → Fin S4x1024x2048x1.rank)
  bcast_S_S1024x4x2048 : S_.BroadcastsInDim S1024x4x2048 (![] : Fin 0 → Fin S1024x4x2048.rank)
  slices_S4x1024x4x200_S1x1x4x200_0_0_0_0 : S4x1024x4x200.Slices ![0, 0, 0, 0] S1x1x4x200
  bcast_S1x1x4x200_S4x1024x4x200_0_1_2_3 : S1x1x4x200.BroadcastsInDim S4x1024x4x200 (![0, 1, 2, 3] : Fin 4 → Fin S4x1024x4x200.rank)

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_threefry2x32_part9 {F : FTy → Type} [FloatOps F] (arg0 : IVec S_ 32) (v163 : IVec S4x1024x2048x4 32) (v169 : IVec S4x1024x2048x4 32) (v170 : IVec S4x1024x2048x4 32) : IVec S4x1024x2048x4 32 × IVec S4x1024x2048x4 32 :=
  let v171 : IVec S4x1024x2048x4 32 := addi v163 v170
  let v172 : IVec S4x1024x2048x4 32 := broadcastInDim S4x1024x2048x4 ![] bcast_S_S4x1024x2048x4 arg0
  let v173 : IVec S4x1024x2048x4 32 := addi v169 v172
  let c_44 : IVec S_ 32 := constantI S_ 32 5#32
  let v174 : IVec S4x1024x2048x4 32 := broadcastInDim S4x1024x2048x4 ![] bcast_S_S4x1024x2048x4 c_44
  let v175 : IVec S4x1024x2048x4 32 := addi v173 v174
  (v171, v175)

def fn_threefry2x32_part8 {F : FTy → Type} [FloatOps F] (arg0 : IVec S_ 32) (v1 : IVec S_ 32) (v148 : IVec S4x1024x2048x4 32) (v149 : IVec S4x1024x2048x4 32) (v151 : IVec S4x1024x2048x4 32) : IVec S4x1024x2048x4 32 × IVec S4x1024x2048x4 32 :=
  let c_39 : IVec S_ 32 := constantI S_ 32 17#32
  let v152 : IVec S4x1024x2048x4 32 := broadcastInDim S4x1024x2048x4 ![] bcast_S_S4x1024x2048x4 c_39
  let v153 : IVec S4x1024x2048x4 32 := Host.shrui v148 v152
  let v154 : IVec S4x1024x2048x4 32 := ori v151 v153
  let v155 : IVec S4x1024x2048x4 32 := xori v149 v154
  let v156 : IVec S4x1024x2048x4 32 := addi v149 v155
  let c_40 : IVec S_ 32 := constantI S_ 32 26#32
  let v157 : IVec S4x1024x2048x4 32 := broadcastInDim S4x1024x2048x4 ![] bcast_S_S4x1024x2048x4 c_40
  let v158 : IVec S4x1024x2048x4 32 := Host.shli v155 v157
  let c_41 : IVec S_ 32 := constantI S_ 32 6#32
  let v159 : IVec S4x1024x2048x4 32 := broadcastInDim S4x1024x2048x4 ![] bcast_S_S4x1024x2048x4 c_41
  let v160 : IVec S4x1024x2048x4 32 := Host.shrui v155 v159
  let v161 : IVec S4x1024x2048x4 32 := ori v158 v160
  let v162 : IVec S4x1024x2048x4 32 := xori v156 v161
  let v163 : IVec S4x1024x2048x4 32 := addi v156 v162
  let c_42 : IVec S_ 32 := constantI S_ 32 6#32
  let v164 : IVec S4x1024x2048x4 32 := broadcastInDim S4x1024x2048x4 ![] bcast_S_S4x1024x2048x4 c_42
  let v165 : IVec S4x1024x2048x4 32 := Host.shli v162 v164
  let c_43 : IVec S_ 32 := constantI S_ 32 26#32
  let v166 : IVec S4x1024x2048x4 32 := broadcastInDim S4x1024x2048x4 ![] bcast_S_S4x1024x2048x4 c_43
  let v167 : IVec S4x1024x2048x4 32 := Host.shrui v162 v166
  let v168 : IVec S4x1024x2048x4 32 := ori v165 v167
  let v169 : IVec S4x1024x2048x4 32 := xori v163 v168
  let v170 : IVec S4x1024x2048x4 32 := broadcastInDim S4x1024x2048x4 ![] bcast_S_S4x1024x2048x4 v1
  fn_threefry2x32_part9 (F := F) arg0 v163 v169 v170

def fn_threefry2x32_part7 {F : FTy → Type} [FloatOps F] (arg0 : IVec S_ 32) (arg1 : IVec S_ 32) (v1 : IVec S_ 32) (v128 : IVec S4x1024x2048x4 32) (v129 : IVec S4x1024x2048x4 32) (v131 : IVec S4x1024x2048x4 32) (c_34 : IVec S_ 32) : IVec S4x1024x2048x4 32 × IVec S4x1024x2048x4 32 :=
  let v132 : IVec S4x1024x2048x4 32 := broadcastInDim S4x1024x2048x4 ![] bcast_S_S4x1024x2048x4 c_34
  let v133 : IVec S4x1024x2048x4 32 := Host.shrui v128 v132
  let v134 : IVec S4x1024x2048x4 32 := ori v131 v133
  let v135 : IVec S4x1024x2048x4 32 := xori v129 v134
  let v136 : IVec S4x1024x2048x4 32 := broadcastInDim S4x1024x2048x4 ![] bcast_S_S4x1024x2048x4 arg1
  let v137 : IVec S4x1024x2048x4 32 := addi v129 v136
  let v138 : IVec S4x1024x2048x4 32 := broadcastInDim S4x1024x2048x4 ![] bcast_S_S4x1024x2048x4 v1
  let v139 : IVec S4x1024x2048x4 32 := addi v135 v138
  let c_35 : IVec S_ 32 := constantI S_ 32 4#32
  let v140 : IVec S4x1024x2048x4 32 := broadcastInDim S4x1024x2048x4 ![] bcast_S_S4x1024x2048x4 c_35
  let v141 : IVec S4x1024x2048x4 32 := addi v139 v140
  let v142 : IVec S4x1024x2048x4 32 := addi v137 v141
  let c_36 : IVec S_ 32 := constantI S_ 32 13#32
  let v143 : IVec S4x1024x2048x4 32 := broadcastInDim S4x1024x2048x4 ![] bcast_S_S4x1024x2048x4 c_36
  let v144 : IVec S4x1024x2048x4 32 := Host.shli v141 v143
  let c_37 : IVec S_ 32 := constantI S_ 32 19#32
  let v145 : IVec S4x1024x2048x4 32 := broadcastInDim S4x1024x2048x4 ![] bcast_S_S4x1024x2048x4 c_37
  let v146 : IVec S4x1024x2048x4 32 := Host.shrui v141 v145
  let v147 : IVec S4x1024x2048x4 32 := ori v144 v146
  let v148 : IVec S4x1024x2048x4 32 := xori v142 v147
  let v149 : IVec S4x1024x2048x4 32 := addi v142 v148
  let c_38 : IVec S_ 32 := constantI S_ 32 15#32
  let v150 : IVec S4x1024x2048x4 32 := broadcastInDim S4x1024x2048x4 ![] bcast_S_S4x1024x2048x4 c_38
  let v151 : IVec S4x1024x2048x4 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S4x1024x2048x4 32) (v113 : IVec S4x1024x2048x4 32) : IVec S4x1024x2048x4 32 × IVec S4x1024x2048x4 32 :=
  let v114 : IVec S4x1024x2048x4 32 := xori v108 v113
  let v115 : IVec S4x1024x2048x4 32 := addi v108 v114
  let c_29 : IVec S_ 32 := constantI S_ 32 29#32
  let v116 : IVec S4x1024x2048x4 32 := broadcastInDim S4x1024x2048x4 ![] bcast_S_S4x1024x2048x4 c_29
  let v117 : IVec S4x1024x2048x4 32 := Host.shli v114 v116
  let c_30 : IVec S_ 32 := constantI S_ 32 3#32
  let v118 : IVec S4x1024x2048x4 32 := broadcastInDim S4x1024x2048x4 ![] bcast_S_S4x1024x2048x4 c_30
  let v119 : IVec S4x1024x2048x4 32 := Host.shrui v114 v118
  let v120 : IVec S4x1024x2048x4 32 := ori v117 v119
  let v121 : IVec S4x1024x2048x4 32 := xori v115 v120
  let v122 : IVec S4x1024x2048x4 32 := addi v115 v121
  let c_31 : IVec S_ 32 := constantI S_ 32 16#32
  let v123 : IVec S4x1024x2048x4 32 := broadcastInDim S4x1024x2048x4 ![] bcast_S_S4x1024x2048x4 c_31
  let v124 : IVec S4x1024x2048x4 32 := Host.shli v121 v123
  let c_32 : IVec S_ 32 := constantI S_ 32 16#32
  let v125 : IVec S4x1024x2048x4 32 := broadcastInDim S4x1024x2048x4 ![] bcast_S_S4x1024x2048x4 c_32
  let v126 : IVec S4x1024x2048x4 32 := Host.shrui v121 v125
  let v127 : IVec S4x1024x2048x4 32 := ori v124 v126
  let v128 : IVec S4x1024x2048x4 32 := xori v122 v127
  let v129 : IVec S4x1024x2048x4 32 := addi v122 v128
  let c_33 : IVec S_ 32 := constantI S_ 32 24#32
  let v130 : IVec S4x1024x2048x4 32 := broadcastInDim S4x1024x2048x4 ![] bcast_S_S4x1024x2048x4 c_33
  let v131 : IVec S4x1024x2048x4 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S4x1024x2048x4 32) (v94 : IVec S4x1024x2048x4 32) : IVec S4x1024x2048x4 32 × IVec S4x1024x2048x4 32 :=
  let v95 : IVec S4x1024x2048x4 32 := addi v88 v94
  let c_24 : IVec S_ 32 := constantI S_ 32 6#32
  let v96 : IVec S4x1024x2048x4 32 := broadcastInDim S4x1024x2048x4 ![] bcast_S_S4x1024x2048x4 c_24
  let v97 : IVec S4x1024x2048x4 32 := Host.shli v94 v96
  let c_25 : IVec S_ 32 := constantI S_ 32 26#32
  let v98 : IVec S4x1024x2048x4 32 := broadcastInDim S4x1024x2048x4 ![] bcast_S_S4x1024x2048x4 c_25
  let v99 : IVec S4x1024x2048x4 32 := Host.shrui v94 v98
  let v100 : IVec S4x1024x2048x4 32 := ori v97 v99
  let v101 : IVec S4x1024x2048x4 32 := xori v95 v100
  let v102 : IVec S4x1024x2048x4 32 := broadcastInDim S4x1024x2048x4 ![] bcast_S_S4x1024x2048x4 arg0
  let v103 : IVec S4x1024x2048x4 32 := addi v95 v102
  let v104 : IVec S4x1024x2048x4 32 := broadcastInDim S4x1024x2048x4 ![] bcast_S_S4x1024x2048x4 arg1
  let v105 : IVec S4x1024x2048x4 32 := addi v101 v104
  let c_26 : IVec S_ 32 := constantI S_ 32 3#32
  let v106 : IVec S4x1024x2048x4 32 := broadcastInDim S4x1024x2048x4 ![] bcast_S_S4x1024x2048x4 c_26
  let v107 : IVec S4x1024x2048x4 32 := addi v105 v106
  let v108 : IVec S4x1024x2048x4 32 := addi v103 v107
  let c_27 : IVec S_ 32 := constantI S_ 32 17#32
  let v109 : IVec S4x1024x2048x4 32 := broadcastInDim S4x1024x2048x4 ![] bcast_S_S4x1024x2048x4 c_27
  let v110 : IVec S4x1024x2048x4 32 := Host.shli v107 v109
  let c_28 : IVec S_ 32 := constantI S_ 32 15#32
  let v111 : IVec S4x1024x2048x4 32 := broadcastInDim S4x1024x2048x4 ![] bcast_S_S4x1024x2048x4 c_28
  let v112 : IVec S4x1024x2048x4 32 := Host.shrui v107 v111
  let v113 : IVec S4x1024x2048x4 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S4x1024x2048x4 32) (v74 : IVec S4x1024x2048x4 32) (v75 : IVec S4x1024x2048x4 32) : IVec S4x1024x2048x4 32 × IVec S4x1024x2048x4 32 :=
  let v76 : IVec S4x1024x2048x4 32 := Host.shli v73 v75
  let c_19 : IVec S_ 32 := constantI S_ 32 19#32
  let v77 : IVec S4x1024x2048x4 32 := broadcastInDim S4x1024x2048x4 ![] bcast_S_S4x1024x2048x4 c_19
  let v78 : IVec S4x1024x2048x4 32 := Host.shrui v73 v77
  let v79 : IVec S4x1024x2048x4 32 := ori v76 v78
  let v80 : IVec S4x1024x2048x4 32 := xori v74 v79
  let v81 : IVec S4x1024x2048x4 32 := addi v74 v80
  let c_20 : IVec S_ 32 := constantI S_ 32 15#32
  let v82 : IVec S4x1024x2048x4 32 := broadcastInDim S4x1024x2048x4 ![] bcast_S_S4x1024x2048x4 c_20
  let v83 : IVec S4x1024x2048x4 32 := Host.shli v80 v82
  let c_21 : IVec S_ 32 := constantI S_ 32 17#32
  let v84 : IVec S4x1024x2048x4 32 := broadcastInDim S4x1024x2048x4 ![] bcast_S_S4x1024x2048x4 c_21
  let v85 : IVec S4x1024x2048x4 32 := Host.shrui v80 v84
  let v86 : IVec S4x1024x2048x4 32 := ori v83 v85
  let v87 : IVec S4x1024x2048x4 32 := xori v81 v86
  let v88 : IVec S4x1024x2048x4 32 := addi v81 v87
  let c_22 : IVec S_ 32 := constantI S_ 32 26#32
  let v89 : IVec S4x1024x2048x4 32 := broadcastInDim S4x1024x2048x4 ![] bcast_S_S4x1024x2048x4 c_22
  let v90 : IVec S4x1024x2048x4 32 := Host.shli v87 v89
  let c_23 : IVec S_ 32 := constantI S_ 32 6#32
  let v91 : IVec S4x1024x2048x4 32 := broadcastInDim S4x1024x2048x4 ![] bcast_S_S4x1024x2048x4 c_23
  let v92 : IVec S4x1024x2048x4 32 := Host.shrui v87 v91
  let v93 : IVec S4x1024x2048x4 32 := ori v90 v92
  let v94 : IVec S4x1024x2048x4 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S4x1024x2048x4 32) (v54 : IVec S4x1024x2048x4 32) (v56 : IVec S4x1024x2048x4 32) : IVec S4x1024x2048x4 32 × IVec S4x1024x2048x4 32 :=
  let c_14 : IVec S_ 32 := constantI S_ 32 16#32
  let v57 : IVec S4x1024x2048x4 32 := broadcastInDim S4x1024x2048x4 ![] bcast_S_S4x1024x2048x4 c_14
  let v58 : IVec S4x1024x2048x4 32 := Host.shrui v53 v57
  let v59 : IVec S4x1024x2048x4 32 := ori v56 v58
  let v60 : IVec S4x1024x2048x4 32 := xori v54 v59
  let v61 : IVec S4x1024x2048x4 32 := addi v54 v60
  let c_15 : IVec S_ 32 := constantI S_ 32 24#32
  let v62 : IVec S4x1024x2048x4 32 := broadcastInDim S4x1024x2048x4 ![] bcast_S_S4x1024x2048x4 c_15
  let v63 : IVec S4x1024x2048x4 32 := Host.shli v60 v62
  let c_16 : IVec S_ 32 := constantI S_ 32 8#32
  let v64 : IVec S4x1024x2048x4 32 := broadcastInDim S4x1024x2048x4 ![] bcast_S_S4x1024x2048x4 c_16
  let v65 : IVec S4x1024x2048x4 32 := Host.shrui v60 v64
  let v66 : IVec S4x1024x2048x4 32 := ori v63 v65
  let v67 : IVec S4x1024x2048x4 32 := xori v61 v66
  let v68 : IVec S4x1024x2048x4 32 := broadcastInDim S4x1024x2048x4 ![] bcast_S_S4x1024x2048x4 v1
  let v69 : IVec S4x1024x2048x4 32 := addi v61 v68
  let v70 : IVec S4x1024x2048x4 32 := broadcastInDim S4x1024x2048x4 ![] bcast_S_S4x1024x2048x4 arg0
  let v71 : IVec S4x1024x2048x4 32 := addi v67 v70
  let c_17 : IVec S_ 32 := constantI S_ 32 2#32
  let v72 : IVec S4x1024x2048x4 32 := broadcastInDim S4x1024x2048x4 ![] bcast_S_S4x1024x2048x4 c_17
  let v73 : IVec S4x1024x2048x4 32 := addi v71 v72
  let v74 : IVec S4x1024x2048x4 32 := addi v69 v73
  let c_18 : IVec S_ 32 := constantI S_ 32 13#32
  let v75 : IVec S4x1024x2048x4 32 := broadcastInDim S4x1024x2048x4 ![] bcast_S_S4x1024x2048x4 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S4x1024x2048x4 32) (v37 : IVec S4x1024x2048x4 32) (c_8 : IVec S_ 32) : IVec S4x1024x2048x4 32 × IVec S4x1024x2048x4 32 :=
  let v38 : IVec S4x1024x2048x4 32 := broadcastInDim S4x1024x2048x4 ![] bcast_S_S4x1024x2048x4 c_8
  let v39 : IVec S4x1024x2048x4 32 := addi v37 v38
  let v40 : IVec S4x1024x2048x4 32 := addi v35 v39
  let c_9 : IVec S_ 32 := constantI S_ 32 17#32
  let v41 : IVec S4x1024x2048x4 32 := broadcastInDim S4x1024x2048x4 ![] bcast_S_S4x1024x2048x4 c_9
  let v42 : IVec S4x1024x2048x4 32 := Host.shli v39 v41
  let c_10 : IVec S_ 32 := constantI S_ 32 15#32
  let v43 : IVec S4x1024x2048x4 32 := broadcastInDim S4x1024x2048x4 ![] bcast_S_S4x1024x2048x4 c_10
  let v44 : IVec S4x1024x2048x4 32 := Host.shrui v39 v43
  let v45 : IVec S4x1024x2048x4 32 := ori v42 v44
  let v46 : IVec S4x1024x2048x4 32 := xori v40 v45
  let v47 : IVec S4x1024x2048x4 32 := addi v40 v46
  let c_11 : IVec S_ 32 := constantI S_ 32 29#32
  let v48 : IVec S4x1024x2048x4 32 := broadcastInDim S4x1024x2048x4 ![] bcast_S_S4x1024x2048x4 c_11
  let v49 : IVec S4x1024x2048x4 32 := Host.shli v46 v48
  let c_12 : IVec S_ 32 := constantI S_ 32 3#32
  let v50 : IVec S4x1024x2048x4 32 := broadcastInDim S4x1024x2048x4 ![] bcast_S_S4x1024x2048x4 c_12
  let v51 : IVec S4x1024x2048x4 32 := Host.shrui v46 v50
  let v52 : IVec S4x1024x2048x4 32 := ori v49 v51
  let v53 : IVec S4x1024x2048x4 32 := xori v47 v52
  let v54 : IVec S4x1024x2048x4 32 := addi v47 v53
  let c_13 : IVec S_ 32 := constantI S_ 32 16#32
  let v55 : IVec S4x1024x2048x4 32 := broadcastInDim S4x1024x2048x4 ![] bcast_S_S4x1024x2048x4 c_13
  let v56 : IVec S4x1024x2048x4 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S4x1024x2048x4 32) (v18 : IVec S4x1024x2048x4 32) : IVec S4x1024x2048x4 32 × IVec S4x1024x2048x4 32 :=
  let v19 : IVec S4x1024x2048x4 32 := xori v13 v18
  let v20 : IVec S4x1024x2048x4 32 := addi v13 v19
  let c_4 : IVec S_ 32 := constantI S_ 32 26#32
  let v21 : IVec S4x1024x2048x4 32 := broadcastInDim S4x1024x2048x4 ![] bcast_S_S4x1024x2048x4 c_4
  let v22 : IVec S4x1024x2048x4 32 := Host.shli v19 v21
  let c_5 : IVec S_ 32 := constantI S_ 32 6#32
  let v23 : IVec S4x1024x2048x4 32 := broadcastInDim S4x1024x2048x4 ![] bcast_S_S4x1024x2048x4 c_5
  let v24 : IVec S4x1024x2048x4 32 := Host.shrui v19 v23
  let v25 : IVec S4x1024x2048x4 32 := ori v22 v24
  let v26 : IVec S4x1024x2048x4 32 := xori v20 v25
  let v27 : IVec S4x1024x2048x4 32 := addi v20 v26
  let c_6 : IVec S_ 32 := constantI S_ 32 6#32
  let v28 : IVec S4x1024x2048x4 32 := broadcastInDim S4x1024x2048x4 ![] bcast_S_S4x1024x2048x4 c_6
  let v29 : IVec S4x1024x2048x4 32 := Host.shli v26 v28
  let c_7 : IVec S_ 32 := constantI S_ 32 26#32
  let v30 : IVec S4x1024x2048x4 32 := broadcastInDim S4x1024x2048x4 ![] bcast_S_S4x1024x2048x4 c_7
  let v31 : IVec S4x1024x2048x4 32 := Host.shrui v26 v30
  let v32 : IVec S4x1024x2048x4 32 := ori v29 v31
  let v33 : IVec S4x1024x2048x4 32 := xori v27 v32
  let v34 : IVec S4x1024x2048x4 32 := broadcastInDim S4x1024x2048x4 ![] bcast_S_S4x1024x2048x4 arg1
  let v35 : IVec S4x1024x2048x4 32 := addi v27 v34
  let v36 : IVec S4x1024x2048x4 32 := broadcastInDim S4x1024x2048x4 ![] bcast_S_S4x1024x2048x4 v1
  let v37 : IVec S4x1024x2048x4 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S4x1024x2048x4 32) (arg3 : IVec S4x1024x2048x4 32) : IVec S4x1024x2048x4 32 × IVec S4x1024x2048x4 32 :=
  let v0 : IVec S_ 32 := xori arg0 arg1
  let c : IVec S_ 32 := constantI S_ 32 466688986#32
  let v1 : IVec S_ 32 := xori v0 c
  let v2 : IVec S4x1024x2048x4 32 := broadcastInDim S4x1024x2048x4 ![] bcast_S_S4x1024x2048x4 arg0
  let v3 : IVec S4x1024x2048x4 32 := addi arg2 v2
  let v4 : IVec S4x1024x2048x4 32 := broadcastInDim S4x1024x2048x4 ![] bcast_S_S4x1024x2048x4 arg1
  let v5 : IVec S4x1024x2048x4 32 := addi arg3 v4
  let v6 : IVec S4x1024x2048x4 32 := addi v3 v5
  let c_0 : IVec S_ 32 := constantI S_ 32 13#32
  let v7 : IVec S4x1024x2048x4 32 := broadcastInDim S4x1024x2048x4 ![] bcast_S_S4x1024x2048x4 c_0
  let v8 : IVec S4x1024x2048x4 32 := Host.shli v5 v7
  let c_1 : IVec S_ 32 := constantI S_ 32 19#32
  let v9 : IVec S4x1024x2048x4 32 := broadcastInDim S4x1024x2048x4 ![] bcast_S_S4x1024x2048x4 c_1
  let v10 : IVec S4x1024x2048x4 32 := Host.shrui v5 v9
  let v11 : IVec S4x1024x2048x4 32 := ori v8 v10
  let v12 : IVec S4x1024x2048x4 32 := xori v6 v11
  let v13 : IVec S4x1024x2048x4 32 := addi v6 v12
  let c_2 : IVec S_ 32 := constantI S_ 32 15#32
  let v14 : IVec S4x1024x2048x4 32 := broadcastInDim S4x1024x2048x4 ![] bcast_S_S4x1024x2048x4 c_2
  let v15 : IVec S4x1024x2048x4 32 := Host.shli v12 v14
  let c_3 : IVec S_ 32 := constantI S_ 32 17#32
  let v16 : IVec S4x1024x2048x4 32 := broadcastInDim S4x1024x2048x4 ![] bcast_S_S4x1024x2048x4 c_3
  let v17 : IVec S4x1024x2048x4 32 := Host.shrui v12 v16
  let v18 : IVec S4x1024x2048x4 32 := ori v15 v17
  fn_threefry2x32_part1 (F := F) arg0 arg1 v1 v13 v18

def fn_uniform_part2 {F : FTy → Type} [FloatOps F] (v1 : FVec F S1x1x1x1 .f32) (v37 : FVec F S4x1024x2048x4 .f32) (v38 : FVec F S4x1024x2048x4 .f32) : FVec F S4x1024x2048x4 .f32 :=
  let v39 : FVec F S4x1024x2048x4 .f32 := addf v37 v38
  let v40 : FVec F S4x1024x2048x4 .f32 := broadcastInDim S4x1024x2048x4 ![0, 1, 2, 3] bcast_S1x1x1x1_S4x1024x2048x4_0_1_2_3 v1
  let v41 : FVec F S4x1024x2048x4 .f32 := maximumf v40 v39
  v41

def fn_uniform_part1 {F : FTy → Type} [FloatOps F] (v1 : FVec F S1x1x1x1 .f32) (v2 : FVec F S1x1x1x1 .f32) (v4 : IVec S_ 32) (v6 : IVec S_ 32) (v16 : IVec S4x1024x2048x4 64) (v18 : IVec S4x1024x2048x4 64) (v19 : IVec S4x1024x2048x4 64) : FVec F S4x1024x2048x4 .f32 :=
  let v20 : IVec S4x1024x2048x4 64 := addi v19 v16
  let v21 : IVec S4x1024x2048x4 64 := addi v20 v18
  let c_3 : IVec S_ 64 := constantI S_ 64 32#64
  let v22 : IVec S4x1024x2048x4 64 := broadcastInDim S4x1024x2048x4 ![] bcast_S_S4x1024x2048x4 c_3
  let v23 : IVec S4x1024x2048x4 64 := Host.shrui v21 v22
  let v24 : IVec S4x1024x2048x4 32 := (trunci 32 · natLt_32_64) v21
  let v25 : IVec S4x1024x2048x4 32 := (trunci 32 · natLt_32_64) v23
  let v26_0 : IVec S4x1024x2048x4 32 := (fn_threefry2x32 (F := F) v4 v6 v25 v24).1
  let v26_1 : IVec S4x1024x2048x4 32 := (fn_threefry2x32 (F := F) v4 v6 v25 v24).2
  let v27 : IVec S4x1024x2048x4 32 := xori v26_0 v26_1
  let c_4 : IVec S_ 32 := constantI S_ 32 9#32
  let v28 : IVec S4x1024x2048x4 32 := broadcastInDim S4x1024x2048x4 ![] bcast_S_S4x1024x2048x4 c_4
  let v29 : IVec S4x1024x2048x4 32 := Host.shrui v27 v28
  let c_5 : IVec S_ 32 := constantI S_ 32 1065353216#32
  let v30 : IVec S4x1024x2048x4 32 := broadcastInDim S4x1024x2048x4 ![] bcast_S_S4x1024x2048x4 c_5
  let v31 : IVec S4x1024x2048x4 32 := ori v29 v30
  let v32 : FVec F S4x1024x2048x4 .f32 := bitcastToFloat .f32 v31
  let cst : FVec F S_ .f32 := constant S_ .f32 0x3F800000#32
  let v33 : FVec F S4x1024x2048x4 .f32 := broadcastInDim S4x1024x2048x4 ![] bcast_S_S4x1024x2048x4 cst
  let v34 : FVec F S4x1024x2048x4 .f32 := subf v32 v33
  let v35 : FVec F S1x1x1x1 .f32 := subf v2 v1
  let v36 : FVec F S4x1024x2048x4 .f32 := broadcastInDim S4x1024x2048x4 ![0, 1, 2, 3] bcast_S1x1x1x1_S4x1024x2048x4_0_1_2_3 v35
  let v37 : FVec F S4x1024x2048x4 .f32 := mulf v34 v36
  let v38 : FVec F S4x1024x2048x4 .f32 := broadcastInDim S4x1024x2048x4 ![0, 1, 2, 3] bcast_S1x1x1x1_S4x1024x2048x4_0_1_2_3 v1
  fn_uniform_part2 (F := F) v1 v37 v38

def fn_uniform {F : FTy → Type} [FloatOps F] (arg0 : IVec S2 32) (arg1 : FVec F S_ .f32) (arg2 : FVec F S_ .f32) : FVec F S4x1024x2048x4 .f32 :=
  let v0 : FVec F S_ .f32 := id arg1
  let v1 : FVec F S1x1x1x1 .f32 := broadcastInDim S1x1x1x1 ![] bcast_S_S1x1x1x1 arg2
  let v2 : FVec F S1x1x1x1 .f32 := broadcastInDim S1x1x1x1 ![] bcast_S_S1x1x1x1 v0
  let v3 : IVec S1 32 := (extractStridedSlice S1 ![0] · slices_S2_S1_0) arg0
  let v4 : IVec S_ 32 := shapeCast S_ v3 shapeCasts_S1_S_
  let v5 : IVec S1 32 := (extractStridedSlice S1 ![1] · slices_S2_S1_1) arg0
  let v6 : IVec S_ 32 := shapeCast S_ v5 shapeCasts_S1_S_
  let v7 : IVec S4x1024x2048x4 64 := iotaInDim S4x1024x2048x4 64 0
  let v8 : IVec S4x1024x2048x4 64 := iotaInDim S4x1024x2048x4 64 1
  let v9 : IVec S4x1024x2048x4 64 := iotaInDim S4x1024x2048x4 64 2
  let v10 : IVec S4x1024x2048x4 64 := iotaInDim S4x1024x2048x4 64 3
  let c : IVec S_ 64 := constantI S_ 64 8388608#64
  let v11 : IVec S4x1024x2048x4 64 := broadcastInDim S4x1024x2048x4 ![] bcast_S_S4x1024x2048x4 c
  let v12 : IVec S4x1024x2048x4 64 := muli v11 v7
  let c_0 : IVec S_ 64 := constantI S_ 64 8192#64
  let v13 : IVec S4x1024x2048x4 64 := broadcastInDim S4x1024x2048x4 ![] bcast_S_S4x1024x2048x4 c_0
  let v14 : IVec S4x1024x2048x4 64 := muli v13 v8
  let c_1 : IVec S_ 64 := constantI S_ 64 4#64
  let v15 : IVec S4x1024x2048x4 64 := broadcastInDim S4x1024x2048x4 ![] bcast_S_S4x1024x2048x4 c_1
  let v16 : IVec S4x1024x2048x4 64 := muli v15 v9
  let c_2 : IVec S_ 64 := constantI S_ 64 1#64
  let v17 : IVec S4x1024x2048x4 64 := broadcastInDim S4x1024x2048x4 ![] bcast_S_S4x1024x2048x4 c_2
  let v18 : IVec S4x1024x2048x4 64 := muli v17 v10
  let v19 : IVec S4x1024x2048x4 64 := addi v12 v14
  fn_uniform_part1 (F := F) v1 v2 v4 v6 v16 v18 v19

def fn_gumbel {F : FTy → Type} [FloatOps F] (arg0 : IVec S2 32) : FVec F S4x1024x2048x4 .f32 :=
  let cst : FVec F S_ .f32 := constant S_ .f32 0x3F800000#32
  let cst_0 : FVec F S_ .f32 := constant S_ .f32 0x00800000#32
  let v0 : FVec F S4x1024x2048x4 .f32 := fn_uniform (F := F) arg0 cst cst_0
  let v1 : FVec F S4x1024x2048x4 .f32 := Host.log v0
  let v2 : FVec F S4x1024x2048x4 .f32 := Host.negf v1
  let v3 : FVec F S4x1024x2048x4 .f32 := Host.log v2
  let v4 : FVec F S4x1024x2048x4 .f32 := Host.negf v3
  v4

def fn_argmax {F : FTy → Type} [FloatOps F] (arg0 : FVec F S4x1024x2048x4 .f32) : IVec S4x1024x2048 32 :=
  let v0 : IVec S4x1024x2048x4 32 := iotaInDim S4x1024x2048x4 32 3
  let cst : FVec F S_ .f32 := constant S_ .f32 0xFF800000#32
  let c : IVec S_ 32 := constantI S_ 32 0#32
  let v1_0 : FVec F S4x1024x2048 .f32 := (fun x y u v j => (Host.argReduce reducer_argmax_f32_i32 x y u v reducesTo_S4x1024x2048x4_S4x1024x2048_d3 h_S_ j).1) arg0 v0 cst c
  let v1_1 : IVec S4x1024x2048 32 := (fun x y u v j => (Host.argReduce reducer_argmax_f32_i32 x y u v reducesTo_S4x1024x2048x4_S4x1024x2048_d3 h_S_ j).2) arg0 v0 cst c
  v1_1

def fn_where {F : FTy → Type} [FloatOps F] (arg0 : IVec S4x1024x2048x4 1) (arg1 : IVec S4x1024x2048x4 1) (arg2 : IVec S4x1024x2048x4 1) : IVec S4x1024x2048x4 1 :=
  let v0 : IVec S4x1024x2048x4 1 := select arg0 arg1 arg2
  v0

def fn_part3 {F : FTy → Type} [FloatOps F] (main_arg1 : FVec F S4x1024x4x200 .f32) (main_arg2 : FVec F S4x1024x4x200 .f32) (main_v54 : IVec S4x1024x2048x4 1) (main_v56 : IVec S1024x4x2048 1) (main_v57 : FVec F S1x1x4x200 .f32) : IVec S4x1024x2048x4 1 × IVec S1024x4x2048 1 × IVec S4x1024x4x200 1 × IVec S4x1024x4x200 1 :=
  let main_v58 : FVec F S4x1024x4x200 .f32 := broadcastInDim S4x1024x4x200 ![0, 1, 2, 3] bcast_S1x1x4x200_S4x1024x4x200_0_1_2_3 main_v57
  let main_v59 : IVec S4x1024x4x200 1 := cmpf .oeq main_arg1 main_v58
  let main_v60 : FVec F S1x1x4x200 .f32 := (extractStridedSlice S1x1x4x200 ![0, 0, 0, 0] · slices_S4x1024x4x200_S1x1x4x200_0_0_0_0) main_arg2
  let main_v61 : FVec F S4x1024x4x200 .f32 := broadcastInDim S4x1024x4x200 ![0, 1, 2, 3] bcast_S1x1x4x200_S4x1024x4x200_0_1_2_3 main_v60
  let main_v62 : IVec S4x1024x4x200 1 := cmpf .oeq main_arg2 main_v61
  (main_v54, main_v56, main_v59, main_v62)

def fn_part2 {F : FTy → Type} [FloatOps F] (main_arg0 : FVec F S1024x4x2048 .f32) (main_arg1 : FVec F S4x1024x4x200 .f32) (main_arg2 : FVec F S4x1024x4x200 .f32) (main_v18 : IVec S4x1024x2048x4 1) (main_v24 : IVec S4x1024x2048x4 1) (main_v26 : IVec S_ 32) (main_v28 : IVec S_ 32) (main_v32 : IVec S4x1024x2048x4 64) (main_v34 : IVec S4x1024x2048x4 64) (main_v36 : IVec S4x1024x2048x4 64) (main_v38 : IVec S4x1024x2048x4 64) (main_c_6 : IVec S_ 64) : IVec S4x1024x2048x4 1 × IVec S1024x4x2048 1 × IVec S4x1024x4x200 1 × IVec S4x1024x4x200 1 :=
  let main_v39 : IVec S4x1024x2048x4 64 := broadcastInDim S4x1024x2048x4 ![] bcast_S_S4x1024x2048x4 main_c_6
  let main_v40 : IVec S4x1024x2048x4 64 := muli main_v39 main_v32
  let main_v41 : IVec S4x1024x2048x4 64 := addi main_v34 main_v36
  let main_v42 : IVec S4x1024x2048x4 64 := addi main_v41 main_v38
  let main_v43 : IVec S4x1024x2048x4 64 := addi main_v42 main_v40
  let main_c_7 : IVec S_ 64 := constantI S_ 64 32#64
  let main_v44 : IVec S4x1024x2048x4 64 := broadcastInDim S4x1024x2048x4 ![] bcast_S_S4x1024x2048x4 main_c_7
  let main_v45 : IVec S4x1024x2048x4 64 := Host.shrui main_v43 main_v44
  let main_v46 : IVec S4x1024x2048x4 32 := (trunci 32 · natLt_32_64) main_v43
  let main_v47 : IVec S4x1024x2048x4 32 := (trunci 32 · natLt_32_64) main_v45
  let main_v48_0 : IVec S4x1024x2048x4 32 := (fn_threefry2x32 (F := F) main_v26 main_v28 main_v47 main_v46).1
  let main_v48_1 : IVec S4x1024x2048x4 32 := (fn_threefry2x32 (F := F) main_v26 main_v28 main_v47 main_v46).2
  let main_v49 : IVec S4x1024x2048x4 32 := xori main_v48_0 main_v48_1
  let main_c_8 : IVec S_ 32 := constantI S_ 32 9#32
  let main_v50 : IVec S4x1024x2048x4 32 := broadcastInDim S4x1024x2048x4 ![] bcast_S_S4x1024x2048x4 main_c_8
  let main_v51 : IVec S4x1024x2048x4 32 := Host.shrui main_v49 main_v50
  let main_c_9 : IVec S_ 32 := constantI S_ 32 0#32
  let main_v52 : IVec S4x1024x2048x4 32 := broadcastInDim S4x1024x2048x4 ![] bcast_S_S4x1024x2048x4 main_c_9
  let main_v53 : IVec S4x1024x2048x4 1 := cmpi .ne main_v51 main_v52
  let main_v54 : IVec S4x1024x2048x4 1 := fn_where (F := F) main_v18 main_v53 main_v24
  let main_cst_10 : FVec F S_ .f32 := constant S_ .f32 0x7F800000#32
  let main_v55 : FVec F S1024x4x2048 .f32 := broadcastInDim S1024x4x2048 ![] bcast_S_S1024x4x2048 main_cst_10
  let main_v56 : IVec S1024x4x2048 1 := cmpf .olt main_arg0 main_v55
  let main_v57 : FVec F S1x1x4x200 .f32 := (extractStridedSlice S1x1x4x200 ![0, 0, 0, 0] · slices_S4x1024x4x200_S1x1x4x200_0_0_0_0) main_arg1
  fn_part3 (F := F) main_arg1 main_arg2 main_v54 main_v56 main_v57

def fn_part1 {F : FTy → Type} [FloatOps F] (main_arg0 : FVec F S1024x4x2048 .f32) (main_arg1 : FVec F S4x1024x4x200 .f32) (main_arg2 : FVec F S4x1024x4x200 .f32) (main_v6 : IVec S2 32) (main_v11 : FVec F S4x1024x2048x4 .f32) (main_v18 : IVec S4x1024x2048x4 1) (main_v19 : FVec F S4x1024x2048 .f32) : IVec S4x1024x2048x4 1 × IVec S1024x4x2048 1 × IVec S4x1024x4x200 1 × IVec S4x1024x4x200 1 :=
  let main_v20 : FVec F S4x1024x2048x1 .f32 := broadcastInDim S4x1024x2048x1 ![0, 1, 2] bcast_S4x1024x2048_S4x1024x2048x1_0_1_2 main_v19
  let main_cst_2 : FVec F S_ .f32 := constant S_ .f32 0x0DA24260#32
  let main_v21 : FVec F S4x1024x2048x1 .f32 := broadcastInDim S4x1024x2048x1 ![] bcast_S_S4x1024x2048x1 main_cst_2
  let main_v22 : FVec F S4x1024x2048x1 .f32 := subf main_v20 main_v21
  let main_v23 : FVec F S4x1024x2048x4 .f32 := broadcastInDim S4x1024x2048x4 ![0, 1, 2, 3] bcast_S4x1024x2048x1_S4x1024x2048x4_0_1_2_3 main_v22
  let main_v24 : IVec S4x1024x2048x4 1 := cmpf .olt main_v11 main_v23
  let main_v25 : IVec S1 32 := (extractStridedSlice S1 ![0] · slices_S2_S1_0) main_v6
  let main_v26 : IVec S_ 32 := shapeCast S_ main_v25 shapeCasts_S1_S_
  let main_v27 : IVec S1 32 := (extractStridedSlice S1 ![1] · slices_S2_S1_1) main_v6
  let main_v28 : IVec S_ 32 := shapeCast S_ main_v27 shapeCasts_S1_S_
  let main_v29 : IVec S4x1024x2048x4 64 := iotaInDim S4x1024x2048x4 64 0
  let main_v30 : IVec S4x1024x2048x4 64 := iotaInDim S4x1024x2048x4 64 1
  let main_v31 : IVec S4x1024x2048x4 64 := iotaInDim S4x1024x2048x4 64 2
  let main_v32 : IVec S4x1024x2048x4 64 := iotaInDim S4x1024x2048x4 64 3
  let main_c_3 : IVec S_ 64 := constantI S_ 64 8388608#64
  let main_v33 : IVec S4x1024x2048x4 64 := broadcastInDim S4x1024x2048x4 ![] bcast_S_S4x1024x2048x4 main_c_3
  let main_v34 : IVec S4x1024x2048x4 64 := muli main_v33 main_v29
  let main_c_4 : IVec S_ 64 := constantI S_ 64 8192#64
  let main_v35 : IVec S4x1024x2048x4 64 := broadcastInDim S4x1024x2048x4 ![] bcast_S_S4x1024x2048x4 main_c_4
  let main_v36 : IVec S4x1024x2048x4 64 := muli main_v35 main_v30
  let main_c_5 : IVec S_ 64 := constantI S_ 64 4#64
  let main_v37 : IVec S4x1024x2048x4 64 := broadcastInDim S4x1024x2048x4 ![] bcast_S_S4x1024x2048x4 main_c_5
  let main_v38 : IVec S4x1024x2048x4 64 := muli main_v37 main_v31
  let main_c_6 : IVec S_ 64 := constantI S_ 64 1#64
  fn_part2 (F := F) main_arg0 main_arg1 main_arg2 main_v18 main_v24 main_v26 main_v28 main_v32 main_v34 main_v36 main_v38 main_c_6

def fn {F : FTy → Type} [FloatOps F] (main_arg0 : FVec F S1024x4x2048 .f32) (main_arg1 : FVec F S4x1024x4x200 .f32) (main_arg2 : FVec F S4x1024x4x200 .f32) : IVec S4x1024x2048x4 1 × IVec S1024x4x2048 1 × IVec S4x1024x4x200 1 × IVec S4x1024x4x200 1 :=
  let main_c : IVec S_ 32 := constantI S_ 32 42#32
  let main_c_0 : IVec S_ 32 := constantI S_ 32 32#32
  let main_v0 : IVec S_ 32 := Host.shrui main_c main_c_0
  let main_v1 : IVec S_ 32 := id main_v0
  let main_v2 : IVec S1 32 := broadcastInDim S1 ![] bcast_S_S1 main_v1
  let main_c_1 : IVec S_ 32 := constantI S_ 32 4294967295#32
  let main_v3 : IVec S_ 32 := andi main_c main_c_1
  let main_v4 : IVec S_ 32 := id main_v3
  let main_v5 : IVec S1 32 := broadcastInDim S1 ![] bcast_S_S1 main_v4
  let main_v6 : IVec S2 32 := (fun a b => concatenate S2 0 [⟨S1, a⟩, ⟨S1, b⟩] concatenates_S1_S1_S2_d0) main_v2 main_v5
  let main_v7 : FVec F S4x1024x2048x4 .f32 := fn_gumbel (F := F) main_v6
  let main_v8 : FVec F S1024x2048x4 .f32 := (transpose S1024x2048x4 [0, 2, 1] · transposes_S1024x4x2048_S1024x2048x4_0_2_1) main_arg0
  let main_v9 : FVec F S1x1024x2048x4 .f32 := broadcastInDim S1x1024x2048x4 ![1, 2, 3] bcast_S1024x2048x4_S1x1024x2048x4_1_2_3 main_v8
  let main_v10 : FVec F S4x1024x2048x4 .f32 := broadcastInDim S4x1024x2048x4 ![0, 1, 2, 3] bcast_S1x1024x2048x4_S4x1024x2048x4_0_1_2_3 main_v9
  let main_v11 : FVec F S4x1024x2048x4 .f32 := addf main_v7 main_v10
  let main_v12 : IVec S4 32 := iotaInDim S4 32 0
  let main_v13 : IVec S4x1024x2048 32 := fn_argmax (F := F) main_v11
  let main_v14 : IVec S4x1024x2048x1 32 := broadcastInDim S4x1024x2048x1 ![0, 1, 2] bcast_S4x1024x2048_S4x1024x2048x1_0_1_2 main_v13
  let main_v15 : IVec S1x1x1x4 32 := broadcastInDim S1x1x1x4 ![3] bcast_S4_S1x1x1x4_3 main_v12
  let main_v16 : IVec S4x1024x2048x4 32 := broadcastInDim S4x1024x2048x4 ![0, 1, 2, 3] bcast_S1x1x1x4_S4x1024x2048x4_0_1_2_3 main_v15
  let main_v17 : IVec S4x1024x2048x4 32 := broadcastInDim S4x1024x2048x4 ![0, 1, 2, 3] bcast_S4x1024x2048x1_S4x1024x2048x4_0_1_2_3 main_v14
  let main_v18 : IVec S4x1024x2048x4 1 := cmpi .eq main_v16 main_v17
  let main_cst : FVec F S_ .f32 := constant S_ .f32 0xFF800000#32
  let main_v19 : FVec F S4x1024x2048 .f32 := (fun x v => Host.reduce FloatOps.maximumf x v reducesTo_S4x1024x2048x4_S4x1024x2048_d3 h_S_) main_v11 main_cst
  fn_part1 (F := F) main_arg0 main_arg1 main_arg2 main_v6 main_v11 main_v18 main_v19
-- ==== Kernel.lean ====
abbrev S1024x4x2048 : Shape := ⟨3, ![1024, 4, 2048]⟩
abbrev S4x1024x4x200 : Shape := ⟨4, ![4, 1024, 4, 200]⟩
abbrev S3276800 : Shape := ⟨1, ![3276800]⟩
abbrev S800 : Shape := ⟨1, ![800]⟩
abbrev S4x200 : Shape := ⟨2, ![4, 200]⟩
abbrev S4096x4x2448 : Shape := ⟨3, ![4096, 4, 2448]⟩
abbrev S32x4x2048 : Shape := ⟨3, ![32, 4, 2048]⟩
abbrev S32x4x2448 : Shape := ⟨3, ![32, 4, 2448]⟩
abbrev S32x2048 : Shape := ⟨2, ![32, 2048]⟩
abbrev S32x1x2048 : Shape := ⟨3, ![32, 1, 2048]⟩
abbrev S1x200 : Shape := ⟨2, ![1, 200]⟩
abbrev S32x200 : Shape := ⟨2, ![32, 200]⟩
abbrev S32x1x200 : Shape := ⟨3, ![32, 1, 200]⟩

abbrev nBuf : Space → Nat
  | .hbm => 10
  | .vmem => 6
  | .smem => 0
  | _ => 0

abbrev bufTy : (tb : Table) → Fin (tcTables nBuf tb) → BufTy
  | .hbm, ⟨0, _⟩ => ⟨S1024x4x2048, .f32⟩
  | .hbm, ⟨1, _⟩ => ⟨S4x1024x4x200, .f32⟩
  | .hbm, ⟨2, _⟩ => ⟨S4x1024x4x200, .f32⟩
  | .hbm, ⟨3, _⟩ => ⟨S3276800, .f32⟩
  | .hbm, ⟨4, _⟩ => ⟨S800, .f32⟩
  | .hbm, ⟨5, _⟩ => ⟨S4x200, .f32⟩
  | .hbm, ⟨6, _⟩ => ⟨S3276800, .f32⟩
  | .hbm, ⟨7, _⟩ => ⟨S800, .f32⟩
  | .hbm, ⟨8, _⟩ => ⟨S4x200, .f32⟩
  | .hbm, ⟨9, _⟩ => ⟨S4096x4x2448, .f32⟩
  | .local _ .vmem, ⟨0, _⟩ => ⟨S32x4x2048, .f32⟩
  | .local _ .vmem, ⟨1, _⟩ => ⟨S32x4x2048, .f32⟩
  | .local _ .vmem, ⟨2, _⟩ => ⟨S4x200, .f32⟩
  | .local _ .vmem, ⟨3, _⟩ => ⟨S4x200, .f32⟩
  | .local _ .vmem, ⟨4, _⟩ => ⟨S32x4x2448, .f32⟩
  | .local _ .vmem, ⟨5, _⟩ => ⟨S32x4x2448, .f32⟩
  | _, _ => ⟨S1024x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x4x2448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x4x2048 : Shape := ⟨3, ![1024, 4, 2048]⟩
abbrev S4x1024x4x200 : Shape := ⟨4, ![4, 1024, 4, 200]⟩
abbrev S_ : Shape := ⟨0, ![]⟩
abbrev S1024x2048 : Shape := ⟨2, ![1024, 2048]⟩
abbrev S1024x1x2048 : Shape := ⟨3, ![1024, 1, 2048]⟩
abbrev S1024x2048x4 : Shape := ⟨3, ![1024, 2048, 4]⟩
abbrev S1 : Shape := ⟨1, ![1]⟩
abbrev S2 : Shape := ⟨1, ![2]⟩
abbrev S1x1x1x1 : Shape := ⟨4, ![1, 1, 1, 1]⟩
abbrev S4x1024x2048x4 : Shape := ⟨4, ![4, 1024, 2048, 4]⟩
abbrev S1x1024x2048x4 : Shape := ⟨4, ![1, 1024, 2048, 4]⟩
abbrev S4x1024x2048 : Shape := ⟨3, ![4, 1024, 2048]⟩
abbrev S4x1024x2048x1 : Shape := ⟨4, ![4, 1024, 2048, 1]⟩
abbrev S1x1x1x4 : Shape := ⟨4, ![1, 1, 1, 4]⟩
abbrev S4x1024x4x2048 : Shape := ⟨4, ![4, 1024, 4, 2048]⟩
abbrev S1x1024x4x2048 : Shape := ⟨4, ![1, 1024, 4, 2048]⟩
abbrev S4x1024x4x2448 : Shape := ⟨4, ![4, 1024, 4, 2448]⟩
abbrev S4096x4x2448 : Shape := ⟨3, ![4096, 4, 2448]⟩

abbrev nBuf : Space → Nat
  | .hbm => 334
  | .vmem => 0
  | .smem => 0
  | _ => 0

abbrev hbmTy0_0 (i : Nat) : BufTy := match i % 128 with
  | 0 => ⟨S1024x4x2048, .f32⟩
  | 1 => ⟨S4x1024x4x200, .f32⟩
  | 2 => ⟨S4x1024x4x200, .f32⟩
  | 3 => ⟨S_, .f32⟩
  | 4 => ⟨S1024x4x2048, .f32⟩
  | 5 => ⟨S1024x4x2048, .f32⟩
  | 6 => ⟨S_, .f32⟩
  | 7 => ⟨S1024x2048, .f32⟩
  | 8 => ⟨S_, .f32⟩
  | 9 => ⟨S1024x2048, .f32⟩
  | 10 => ⟨S1024x2048, .f32⟩
  | 11 => ⟨S1024x1x2048, .f32⟩
  | 12 => ⟨S1024x4x2048, .f32⟩
  | 13 => ⟨S1024x4x2048, .f32⟩
  | 14 => ⟨S1024x4x2048, .f32⟩
  | 15 => ⟨S_, .f32⟩
  | 16 => ⟨S1024x2048, .f32⟩
  | 17 => ⟨S1024x1x2048, .f32⟩
  | 18 => ⟨S1024x4x2048, .f32⟩
  | 19 => ⟨S1024x4x2048, .f32⟩
  | 20 => ⟨S_, .f32⟩
  | 21 => ⟨S1024x4x2048, .f32⟩
  | 22 => ⟨S1024x4x2048, .f32⟩
  | 23 => ⟨S1024x2048x4, .f32⟩
  | 24 => ⟨S_, .i32⟩
  | 25 => ⟨S_, .i32⟩
  | 26 => ⟨S_, .i32⟩
  | 27 => ⟨S_, .i32⟩
  | 28 => ⟨S1, .i32⟩
  | 29 => ⟨S_, .i32⟩
  | 30 => ⟨S_, .i32⟩
  | 31 => ⟨S_, .i32⟩
  | 32 => ⟨S1, .i32⟩
  | 33 => ⟨S2, .i32⟩
  | 34 => ⟨S_, .f32⟩
  | 35 => ⟨S_, .f32⟩
  | 36 => ⟨S_, .f32⟩
  | 37 => ⟨S1x1x1x1, .f32⟩
  | 38 => ⟨S1x1x1x1, .f32⟩
  | 39 => ⟨S1, .i32⟩
  | 40 => ⟨S_, .i32⟩
  | 41 => ⟨S1, .i32⟩
  | 42 => ⟨S_, .i32⟩
  | 43 => ⟨S4x1024x2048x4, .i64⟩
  | 44 => ⟨S4x1024x2048x4, .i64⟩
  | 45 => ⟨S4x1024x2048x4, .i64⟩
  | 46 => ⟨S4x1024x2048x4, .i64⟩
  | 47 => ⟨S_, .i64⟩
  | 48 => ⟨S4x1024x2048x4, .i64⟩
  | 49 => ⟨S4x1024x2048x4, .i64⟩
  | 50 => ⟨S_, .i64⟩
  | 51 => ⟨S4x1024x2048x4, .i64⟩
  | 52 => ⟨S4x1024x2048x4, .i64⟩
  | 53 => ⟨S_, .i64⟩
  | 54 => ⟨S4x1024x2048x4, .i64⟩
  | 55 => ⟨S4x1024x2048x4, .i64⟩
  | 56 => ⟨S_, .i64⟩
  | 57 => ⟨S4x1024x2048x4, .i64⟩
  | 58 => ⟨S4x1024x2048x4, .i64⟩
  | 59 => ⟨S4x1024x2048x4, .i64⟩
  | 60 => ⟨S4x1024x2048x4, .i64⟩
  | 61 => ⟨S4x1024x2048x4, .i64⟩
  | 62 => ⟨S_, .i64⟩
  | 63 => ⟨S4x1024x2048x4, .i64⟩
  | 64 => ⟨S4x1024x2048x4, .i64⟩
  | 65 => ⟨S4x1024x2048x4, .i32⟩
  | 66 => ⟨S4x1024x2048x4, .i32⟩
  | 67 => ⟨S_, .i32⟩
  | 68 => ⟨S_, .i32⟩
  | 69 => ⟨S_, .i32⟩
  | 70 => ⟨S4x1024x2048x4, .i32⟩
  | 71 => ⟨S4x1024x2048x4, .i32⟩
  | 72 => ⟨S4x1024x2048x4, .i32⟩
  | 73 => ⟨S4x1024x2048x4, .i32⟩
  | 74 => ⟨S4x1024x2048x4, .i32⟩
  | 75 => ⟨S_, .i32⟩
  | 76 => ⟨S4x1024x2048x4, .i32⟩
  | 77 => ⟨S4x1024x2048x4, .i32⟩
  | 78 => ⟨S_, .i32⟩
  | 79 => ⟨S4x1024x2048x4, .i32⟩
  | 80 => ⟨S4x1024x2048x4, .i32⟩
  | 81 => ⟨S4x1024x2048x4, .i32⟩
  | 82 => ⟨S4x1024x2048x4, .i32⟩
  | 83 => ⟨S4x1024x2048x4, .i32⟩
  | 84 => ⟨S_, .i32⟩
  | 85 => ⟨S4x1024x2048x4, .i32⟩
  | 86 => ⟨S4x1024x2048x4, .i32⟩
  | 87 => ⟨S_, .i32⟩
  | 88 => ⟨S4x1024x2048x4, .i32⟩
  | 89 => ⟨S4x1024x2048x4, .i32⟩
  | 90 => ⟨S4x1024x2048x4, .i32⟩
  | 91 => ⟨S4x1024x2048x4, .i32⟩
  | 92 => ⟨S4x1024x2048x4, .i32⟩
  | 93 => ⟨S_, .i32⟩
  | 94 => ⟨S4x1024x2048x4, .i32⟩
  | 95 => ⟨S4x1024x2048x4, .i32⟩
  | 96 => ⟨S_, .i32⟩
  | 97 => ⟨S4x1024x2048x4, .i32⟩
  | 98 => ⟨S4x1024x2048x4, .i32⟩
  | 99 => ⟨S4x1024x2048x4, .i32⟩
  | 100 => ⟨S4x1024x2048x4, .i32⟩
  | 101 => ⟨S4x1024x2048x4, .i32⟩
  | 102 => ⟨S_, .i32⟩
  | 103 => ⟨S4x1024x2048x4, .i32⟩
  | 104 => ⟨S4x1024x2048x4, .i32⟩
  | 105 => ⟨S_, .i32⟩
  | 106 => ⟨S4x1024x2048x4, .i32⟩
  | 107 => ⟨S4x1024x2048x4, .i32⟩
  | 108 => ⟨S4x1024x2048x4, .i32⟩
  | 109 => ⟨S4x1024x2048x4, .i32⟩
  | 110 => ⟨S4x1024x2048x4, .i32⟩
  | 111 => ⟨S4x1024x2048x4, .i32⟩
  | 112 => ⟨S4x1024x2048x4, .i32⟩
  | 113 => ⟨S4x1024x2048x4, .i32⟩
  | 114 => ⟨S_, .i32⟩
  | 115 => ⟨S4x1024x2048x4, .i32⟩
  | 116 => ⟨S4x1024x2048x4, .i32⟩
  | 117 => ⟨S4x1024x2048x4, .i32⟩
  | 118 => ⟨S_, .i32⟩
  | 119 => ⟨S4x1024x2048x4, .i32⟩
  | 120 => ⟨S4x1024x2048x4, .i32⟩
  | 121 => ⟨S_, .i32⟩
  | 122 => ⟨S4x1024x2048x4, .i32⟩
  | 123 => ⟨S4x1024x2048x4, .i32⟩
  | 124 => ⟨S4x1024x2048x4, .i32⟩
  | 125 => ⟨S4x1024x2048x4, .i32⟩
  | 126 => ⟨S4x1024x2048x4, .i32⟩
  | 127 => ⟨S_, .i32⟩
  | _ => ⟨S1024x4x2048, .f32⟩

abbrev hbmTy0_1 (i : Nat) : BufTy := match i % 128 with
  | 0 => ⟨S4x1024x2048x4, .i32⟩
  | 1 => ⟨S4x1024x2048x4, .i32⟩
  | 2 => ⟨S_, .i32⟩
  | 3 => ⟨S4x1024x2048x4, .i32⟩
  | 4 => ⟨S4x1024x2048x4, .i32⟩
  | 5 => ⟨S4x1024x2048x4, .i32⟩
  | 6 => ⟨S4x1024x2048x4, .i32⟩
  | 7 => ⟨S4x1024x2048x4, .i32⟩
  | 8 => ⟨S_, .i32⟩
  | 9 => ⟨S4x1024x2048x4, .i32⟩
  | 10 => ⟨S4x1024x2048x4, .i32⟩
  | 11 => ⟨S_, .i32⟩
  | 12 => ⟨S4x1024x2048x4, .i32⟩
  | 13 => ⟨S4x1024x2048x4, .i32⟩
  | 14 => ⟨S4x1024x2048x4, .i32⟩
  | 15 => ⟨S4x1024x2048x4, .i32⟩
  | 16 => ⟨S4x1024x2048x4, .i32⟩
  | 17 => ⟨S_, .i32⟩
  | 18 => ⟨S4x1024x2048x4, .i32⟩
  | 19 => ⟨S4x1024x2048x4, .i32⟩
  | 20 => ⟨S_, .i32⟩
  | 21 => ⟨S4x1024x2048x4, .i32⟩
  | 22 => ⟨S4x1024x2048x4, .i32⟩
  | 23 => ⟨S4x1024x2048x4, .i32⟩
  | 24 => ⟨S4x1024x2048x4, .i32⟩
  | 25 => ⟨S4x1024x2048x4, .i32⟩
  | 26 => ⟨S4x1024x2048x4, .i32⟩
  | 27 => ⟨S4x1024x2048x4, .i32⟩
  | 28 => ⟨S4x1024x2048x4, .i32⟩
  | 29 => ⟨S_, .i32⟩
  | 30 => ⟨S4x1024x2048x4, .i32⟩
  | 31 => ⟨S4x1024x2048x4, .i32⟩
  | 32 => ⟨S4x1024x2048x4, .i32⟩
  | 33 => ⟨S_, .i32⟩
  | 34 => ⟨S4x1024x2048x4, .i32⟩
  | 35 => ⟨S4x1024x2048x4, .i32⟩
  | 36 => ⟨S_, .i32⟩
  | 37 => ⟨S4x1024x2048x4, .i32⟩
  | 38 => ⟨S4x1024x2048x4, .i32⟩
  | 39 => ⟨S4x1024x2048x4, .i32⟩
  | 40 => ⟨S4x1024x2048x4, .i32⟩
  | 41 => ⟨S4x1024x2048x4, .i32⟩
  | 42 => ⟨S_, .i32⟩
  | 43 => ⟨S4x1024x2048x4, .i32⟩
  | 44 => ⟨S4x1024x2048x4, .i32⟩
  | 45 => ⟨S_, .i32⟩
  | 46 => ⟨S4x1024x2048x4, .i32⟩
  | 47 => ⟨S4x1024x2048x4, .i32⟩
  | 48 => ⟨S4x1024x2048x4, .i32⟩
  | 49 => ⟨S4x1024x2048x4, .i32⟩
  | 50 => ⟨S4x1024x2048x4, .i32⟩
  | 51 => ⟨S_, .i32⟩
  | 52 => ⟨S4x1024x2048x4, .i32⟩
  | 53 => ⟨S4x1024x2048x4, .i32⟩
  | 54 => ⟨S_, .i32⟩
  | 55 => ⟨S4x1024x2048x4, .i32⟩
  | 56 => ⟨S4x1024x2048x4, .i32⟩
  | 57 => ⟨S4x1024x2048x4, .i32⟩
  | 58 => ⟨S4x1024x2048x4, .i32⟩
  | 59 => ⟨S4x1024x2048x4, .i32⟩
  | 60 => ⟨S_, .i32⟩
  | 61 => ⟨S4x1024x2048x4, .i32⟩
  | 62 => ⟨S4x1024x2048x4, .i32⟩
  | 63 => ⟨S_, .i32⟩
  | 64 => ⟨S4x1024x2048x4, .i32⟩
  | 65 => ⟨S4x1024x2048x4, .i32⟩
  | 66 => ⟨S4x1024x2048x4, .i32⟩
  | 67 => ⟨S4x1024x2048x4, .i32⟩
  | 68 => ⟨S4x1024x2048x4, .i32⟩
  | 69 => ⟨S4x1024x2048x4, .i32⟩
  | 70 => ⟨S4x1024x2048x4, .i32⟩
  | 71 => ⟨S4x1024x2048x4, .i32⟩
  | 72 => ⟨S_, .i32⟩
  | 73 => ⟨S4x1024x2048x4, .i32⟩
  | 74 => ⟨S4x1024x2048x4, .i32⟩
  | 75 => ⟨S4x1024x2048x4, .i32⟩
  | 76 => ⟨S_, .i32⟩
  | 77 => ⟨S4x1024x2048x4, .i32⟩
  | 78 => ⟨S4x1024x2048x4, .i32⟩
  | 79 => ⟨S_, .i32⟩
  | 80 => ⟨S4x1024x2048x4, .i32⟩
  | 81 => ⟨S4x1024x2048x4, .i32⟩
  | 82 => ⟨S4x1024x2048x4, .i32⟩
  | 83 => ⟨S4x1024x2048x4, .i32⟩
  | 84 => ⟨S4x1024x2048x4, .i32⟩
  | 85 => ⟨S_, .i32⟩
  | 86 => ⟨S4x1024x2048x4, .i32⟩
  | 87 => ⟨S4x1024x2048x4, .i32⟩
  | 88 => ⟨S_, .i32⟩
  | 89 => ⟨S4x1024x2048x4, .i32⟩
  | 90 => ⟨S4x1024x2048x4, .i32⟩
  | 91 => ⟨S4x1024x2048x4, .i32⟩
  | 92 => ⟨S4x1024x2048x4, .i32⟩
  | 93 => ⟨S4x1024x2048x4, .i32⟩
  | 94 => ⟨S_, .i32⟩
  | 95 => ⟨S4x1024x2048x4, .i32⟩
  | 96 => ⟨S4x1024x2048x4, .i32⟩
  | 97 => ⟨S_, .i32⟩
  | 98 => ⟨S4x1024x2048x4, .i32⟩
  | 99 => ⟨S4x1024x2048x4, .i32⟩
  | 100 => ⟨S4x1024x2048x4, .i32⟩
  | 101 => ⟨S4x1024x2048x4, .i32⟩
  | 102 => ⟨S4x1024x2048x4, .i32⟩
  | 103 => ⟨S_, .i32⟩
  | 104 => ⟨S4x1024x2048x4, .i32⟩
  | 105 => ⟨S4x1024x2048x4, .i32⟩
  | 106 => ⟨S_, .i32⟩
  | 107 => ⟨S4x1024x2048x4, .i32⟩
  | 108 => ⟨S4x1024x2048x4, .i32⟩
  | 109 => ⟨S4x1024x2048x4, .i32⟩
  | 110 => ⟨S4x1024x2048x4, .i32⟩
  | 111 => ⟨S4x1024x2048x4, .i32⟩
  | 112 => ⟨S4x1024x2048x4, .i32⟩
  | 113 => ⟨S4x1024x2048x4, .i32⟩
  | 114 => ⟨S4x1024x2048x4, .i32⟩
  | 115 => ⟨S_, .i32⟩
  | 116 => ⟨S4x1024x2048x4, .i32⟩
  | 117 => ⟨S4x1024x2048x4, .i32⟩
  | 118 => ⟨S4x1024x2048x4, .i32⟩
  | 119 => ⟨S_, .i32⟩
  | 120 => ⟨S4x1024x2048x4, .i32⟩
  | 121 => ⟨S4x1024x2048x4, .i32⟩
  | 122 => ⟨S_, .i32⟩
  | 123 => ⟨S4x1024x2048x4, .i32⟩
  | 124 => ⟨S4x1024x2048x4, .i32⟩
  | 125 => ⟨S4x1024x2048x4, .i32⟩
  | 126 => ⟨S4x1024x2048x4, .i32⟩
  | 127 => ⟨S4x1024x2048x4, .i32⟩
  | _ => ⟨S1024x4x2048, .f32⟩

abbrev hbmTy0_2 (i : Nat) : BufTy := match i % 128 with
  | 0 => ⟨S_, .i32⟩
  | 1 => ⟨S4x1024x2048x4, .i32⟩
  | 2 => ⟨S4x1024x2048x4, .i32⟩
  | 3 => ⟨S_, .i32⟩
  | 4 => ⟨S4x1024x2048x4, .i32⟩
  | 5 => ⟨S4x1024x2048x4, .i32⟩
  | 6 => ⟨S4x1024x2048x4, .i32⟩
  | 7 => ⟨S4x1024x2048x4, .i32⟩
  | 8 => ⟨S4x1024x2048x4, .i32⟩
  | 9 => ⟨S_, .i32⟩
  | 10 => ⟨S4x1024x2048x4, .i32⟩
  | 11 => ⟨S4x1024x2048x4, .i32⟩
  | 12 => ⟨S_, .i32⟩
  | 13 => ⟨S4x1024x2048x4, .i32⟩
  | 14 => ⟨S4x1024x2048x4, .i32⟩
  | 15 => ⟨S4x1024x2048x4, .i32⟩
  | 16 => ⟨S4x1024x2048x4, .i32⟩
  | 17 => ⟨S4x1024x2048x4, .i32⟩
  | 18 => ⟨S_, .i32⟩
  | 19 => ⟨S4x1024x2048x4, .i32⟩
  | 20 => ⟨S4x1024x2048x4, .i32⟩
  | 21 => ⟨S_, .i32⟩
  | 22 => ⟨S4x1024x2048x4, .i32⟩
  | 23 => ⟨S4x1024x2048x4, .i32⟩
  | 24 => ⟨S4x1024x2048x4, .i32⟩
  | 25 => ⟨S4x1024x2048x4, .i32⟩
  | 26 => ⟨S4x1024x2048x4, .i32⟩
  | 27 => ⟨S4x1024x2048x4, .i32⟩
  | 28 => ⟨S4x1024x2048x4, .i32⟩
  | 29 => ⟨S4x1024x2048x4, .i32⟩
  | 30 => ⟨S_, .i32⟩
  | 31 => ⟨S4x1024x2048x4, .i32⟩
  | 32 => ⟨S4x1024x2048x4, .i32⟩
  | 33 => ⟨S4x1024x2048x4, .i32⟩
  | 34 => ⟨S_, .i32⟩
  | 35 => ⟨S4x1024x2048x4, .i32⟩
  | 36 => ⟨S4x1024x2048x4, .i32⟩
  | 37 => ⟨S_, .i32⟩
  | 38 => ⟨S4x1024x2048x4, .i32⟩
  | 39 => ⟨S4x1024x2048x4, .i32⟩
  | 40 => ⟨S4x1024x2048x4, .f32⟩
  | 41 => ⟨S_, .f32⟩
  | 42 => ⟨S4x1024x2048x4, .f32⟩
  | 43 => ⟨S4x1024x2048x4, .f32⟩
  | 44 => ⟨S1x1x1x1, .f32⟩
  | 45 => ⟨S4x1024x2048x4, .f32⟩
  | 46 => ⟨S4x1024x2048x4, .f32⟩
  | 47 => ⟨S4x1024x2048x4, .f32⟩
  | 48 => ⟨S4x1024x2048x4, .f32⟩
  | 49 => ⟨S4x1024x2048x4, .f32⟩
  | 50 => ⟨S4x1024x2048x4, .f32⟩
  | 51 => ⟨S4x1024x2048x4, .f32⟩
  | 52 => ⟨S4x1024x2048x4, .f32⟩
  | 53 => ⟨S4x1024x2048x4, .f32⟩
  | 54 => ⟨S4x1024x2048x4, .f32⟩
  | 55 => ⟨S1x1024x2048x4, .f32⟩
  | 56 => ⟨S4x1024x2048x4, .f32⟩
  | 57 => ⟨S4x1024x2048x4, .f32⟩
  | 58 => ⟨S4x1024x2048x4, .i32⟩
  | 59 => ⟨S_, .f32⟩
  | 60 => ⟨S_, .i32⟩
  | 61 => ⟨S4x1024x2048, .f32⟩
  | 62 => ⟨S4x1024x2048, .i32⟩
  | 63 => ⟨S4x1024x2048x1, .i32⟩
  | 64 => ⟨S1x1x1x4, .i32⟩
  | 65 => ⟨S4x1024x2048x4, .i32⟩
  | 66 => ⟨S4x1024x2048x4, .i32⟩
  | 67 => ⟨S4x1024x2048x4, .i1⟩
  | 68 => ⟨S4x1024x2048x4, .f32⟩
  | 69 => ⟨S4x1024x4x2048, .f32⟩
  | 70 => ⟨S1x1024x4x2048, .f32⟩
  | 71 => ⟨S4x1024x4x2048, .f32⟩
  | 72 => ⟨S4x1024x4x2048, .f32⟩
  | 73 => ⟨S1x1024x4x2048, .f32⟩
  | 74 => ⟨S4x1024x4x2048, .f32⟩
  | 75 => ⟨S4x1024x4x2048, .f32⟩
  | 76 => ⟨S4x1024x4x2448, .f32⟩
  | 77 => ⟨S4096x4x2448, .f32⟩
  | _ => ⟨S1024x4x2048, .f32⟩

abbrev hbmTy (i : Nat) : BufTy := match i / 128 with
  | 0 => hbmTy0_0 i
  | 1 => hbmTy0_1 i
  | 2 => hbmTy0_2 i
  | _ => ⟨S1024x4x2048, .f32⟩

abbrev bufTy : (tb : Table) → Fin (tcTables nBuf tb) → BufTy
  | .hbm, ⟨i, _⟩ => hbmTy i
  | _, _ => ⟨S1024x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_cst_0 : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_c : Ref sig .tc := ⟨.hbm, 47, rfl⟩
abbrev main_call0_call0_v11 : Ref sig .tc := ⟨.hbm, 48, rfl⟩
abbrev main_call0_call0_v12 : Ref sig .tc := ⟨.hbm, 49, rfl⟩
abbrev main_call0_call0_c_0 : Ref sig .tc := ⟨.hbm, 50, rfl⟩
abbrev main_call0_call0_v13 : Ref sig .tc := ⟨.hbm, 51, rfl⟩
abbrev main_call0_call0_v14 : Ref sig .tc := ⟨.hbm, 52, rfl⟩
abbrev main_call0_call0_c_1 : Ref sig .tc := ⟨.hbm, 53, rfl⟩
abbrev main_call0_call0_v15 : Ref sig .tc := ⟨.hbm, 54, rfl⟩
abbrev main_call0_call0_v16 : Ref sig .tc := ⟨.hbm, 55, rfl⟩
abbrev main_call0_call0_c_2 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_v21 : Ref sig .tc := ⟨.hbm, 61, rfl⟩
abbrev main_call0_call0_c_3 : Ref sig .tc := ⟨.hbm, 62, rfl⟩
abbrev main_call0_call0_v22 : Ref sig .tc := ⟨.hbm, 63, rfl⟩
abbrev main_call0_call0_v23 : Ref sig .tc := ⟨.hbm, 64, rfl⟩
abbrev main_call0_call0_v24 : Ref sig .tc := ⟨.hbm, 65, rfl⟩
abbrev main_call0_call0_v25 : Ref sig .tc := ⟨.hbm, 66, rfl⟩
abbrev main_call0_call0_call0_v0 : Ref sig .tc := ⟨.hbm, 67, rfl⟩
abbrev main_call0_call0_call0_c : Ref sig .tc := ⟨.hbm, 68, rfl⟩
abbrev main_call0_call0_call0_v1 : Ref sig .tc := ⟨.hbm, 69, rfl⟩
abbrev main_call0_call0_call0_v2 : Ref sig .tc := ⟨.hbm, 70, rfl⟩
abbrev main_call0_call0_call0_v3 : Ref sig .tc := ⟨.hbm, 71, rfl⟩
abbrev main_call0_call0_call0_v4 : Ref sig .tc := ⟨.hbm, 72, rfl⟩
abbrev main_call0_call0_call0_v5 : Ref sig .tc := ⟨.hbm, 73, rfl⟩
abbrev main_call0_call0_call0_v6 : Ref sig .tc := ⟨.hbm, 74, rfl⟩
abbrev main_call0_call0_call0_c_0 : Ref sig .tc := ⟨.hbm, 75, rfl⟩
abbrev main_call0_call0_call0_v7 : Ref sig .tc := ⟨.hbm, 76, rfl⟩
abbrev main_call0_call0_call0_v8 : Ref sig .tc := ⟨.hbm, 77, rfl⟩
abbrev main_call0_call0_call0_c_1 : Ref sig .tc := ⟨.hbm, 78, rfl⟩
abbrev main_call0_call0_call0_v9 : Ref sig .tc := ⟨.hbm, 79, rfl⟩
abbrev main_call0_call0_call0_v10 : Ref sig .tc := ⟨.hbm, 80, rfl⟩
abbrev main_call0_call0_call0_v11 : Ref sig .tc := ⟨.hbm, 81, rfl⟩
abbrev main_call0_call0_call0_v12 : Ref sig .tc := ⟨.hbm, 82, rfl⟩
abbrev main_call0_call0_call0_v13 : Ref sig .tc := ⟨.hbm, 83, rfl⟩
abbrev main_call0_call0_call0_c_2 : Ref sig .tc := ⟨.hbm, 84, rfl⟩
abbrev main_call0_call0_call0_v14 : Ref sig .tc := ⟨.hbm, 85, rfl⟩
abbrev main_call0_call0_call0_v15 : Ref sig .tc := ⟨.hbm, 86, rfl⟩
abbrev main_call0_call0_call0_c_3 : Ref sig .tc := ⟨.hbm, 87, rfl⟩
abbrev main_call0_call0_call0_v16 : Ref sig .tc := ⟨.hbm, 88, rfl⟩
abbrev main_call0_call0_call0_v17 : Ref sig .tc := ⟨.hbm, 89, rfl⟩
abbrev main_call0_call0_call0_v18 : Ref sig .tc := ⟨.hbm, 90, rfl⟩
abbrev main_call0_call0_call0_v19 : Ref sig .tc := ⟨.hbm, 91, rfl⟩
abbrev main_call0_call0_call0_v20 : Ref sig .tc := ⟨.hbm, 92, rfl⟩
abbrev main_call0_call0_call0_c_4 : Ref sig .tc := ⟨.hbm, 93, rfl⟩
abbrev main_call0_call0_call0_v21 : Ref sig .tc := ⟨.hbm, 94, rfl⟩
abbrev main_call0_call0_call0_v22 : Ref sig .tc := ⟨.hbm, 95, rfl⟩
abbrev main_call0_call0_call0_c_5 : Ref sig .tc := ⟨.hbm, 96, rfl⟩
abbrev main_call0_call0_call0_v23 : Ref sig .tc := ⟨.hbm, 97, rfl⟩
abbrev main_call0_call0_call0_v24 : Ref sig .tc := ⟨.hbm, 98, rfl⟩
abbrev main_call0_call0_call0_v25 : Ref sig .tc := ⟨.hbm, 99, rfl⟩
abbrev main_call0_call0_call0_v26 : Ref sig .tc := ⟨.hbm, 100, rfl⟩
abbrev main_call0_call0_call0_v27 : Ref sig .tc := ⟨.hbm, 101, rfl⟩
abbrev main_call0_call0_call0_c_6 : Ref sig .tc := ⟨.hbm, 102, rfl⟩
abbrev main_call0_call0_call0_v28 : Ref sig .tc := ⟨.hbm, 103, rfl⟩
abbrev main_call0_call0_call0_v29 : Ref sig .tc := ⟨.hbm, 104, rfl⟩
abbrev main_call0_call0_call0_c_7 : Ref sig .tc := ⟨.hbm, 105, rfl⟩
abbrev main_call0_call0_call0_v30 : Ref sig .tc := ⟨.hbm, 106, rfl⟩
abbrev main_call0_call0_call0_v31 : Ref sig .tc := ⟨.hbm, 107, rfl⟩
abbrev main_call0_call0_call0_v32 : Ref sig .tc := ⟨.hbm, 108, rfl⟩
abbrev main_call0_call0_call0_v33 : Ref sig .tc := ⟨.hbm, 109, rfl⟩
abbrev main_call0_call0_call0_v34 : Ref sig .tc := ⟨.hbm, 110, rfl⟩
abbrev main_call0_call0_call0_v35 : Ref sig .tc := ⟨.hbm, 111, rfl⟩
abbrev main_call0_call0_call0_v36 : Ref sig .tc := ⟨.hbm, 112, rfl⟩
abbrev main_call0_call0_call0_v37 : Ref sig .tc := ⟨.hbm, 113, rfl⟩
abbrev main_call0_call0_call0_c_8 : Ref sig .tc := ⟨.hbm, 114, rfl⟩
abbrev main_call0_call0_call0_v38 : Ref sig .tc := ⟨.hbm, 115, rfl⟩
abbrev main_call0_call0_call0_v39 : Ref sig .tc := ⟨.hbm, 116, rfl⟩
abbrev main_call0_call0_call0_v40 : Ref sig .tc := ⟨.hbm, 117, rfl⟩
abbrev main_call0_call0_call0_c_9 : Ref sig .tc := ⟨.hbm, 118, rfl⟩
abbrev main_call0_call0_call0_v41 : Ref sig .tc := ⟨.hbm, 119, rfl⟩
abbrev main_call0_call0_call0_v42 : Ref sig .tc := ⟨.hbm, 120, rfl⟩
abbrev main_call0_call0_call0_c_10 : Ref sig .tc := ⟨.hbm, 121, rfl⟩
abbrev main_call0_call0_call0_v43 : Ref sig .tc := ⟨.hbm, 122, rfl⟩
abbrev main_call0_call0_call0_v44 : Ref sig .tc := ⟨.hbm, 123, rfl⟩
abbrev main_call0_call0_call0_v45 : Ref sig .tc := ⟨.hbm, 124, rfl⟩
abbrev main_call0_call0_call0_v46 : Ref sig .tc := ⟨.hbm, 125, rfl⟩
abbrev main_call0_call0_call0_v47 : Ref sig .tc := ⟨.hbm, 126, rfl⟩
abbrev main_call0_call0_call0_c_11 : Ref sig .tc := ⟨.hbm, 127, rfl⟩
abbrev main_call0_call0_call0_v48 : Ref sig .tc := ⟨.hbm, 128, rfl⟩
abbrev main_call0_call0_call0_v49 : Ref sig .tc := ⟨.hbm, 129, rfl⟩
abbrev main_call0_call0_call0_c_12 : Ref sig .tc := ⟨.hbm, 130, rfl⟩
abbrev main_call0_call0_call0_v50 : Ref sig .tc := ⟨.hbm, 131, rfl⟩
abbrev main_call0_call0_call0_v51 : Ref sig .tc := ⟨.hbm, 132, rfl⟩
abbrev main_call0_call0_call0_v52 : Ref sig .tc := ⟨.hbm, 133, rfl⟩
abbrev main_call0_call0_call0_v53 : Ref sig .tc := ⟨.hbm, 134, rfl⟩
abbrev main_call0_call0_call0_v54 : Ref sig .tc := ⟨.hbm, 135, rfl⟩
abbrev main_call0_call0_call0_c_13 : Ref sig .tc := ⟨.hbm, 136, rfl⟩
abbrev main_call0_call0_call0_v55 : Ref sig .tc := ⟨.hbm, 137, rfl⟩
abbrev main_call0_call0_call0_v56 : Ref sig .tc := ⟨.hbm, 138, rfl⟩
abbrev main_call0_call0_call0_c_14 : Ref sig .tc := ⟨.hbm, 139, rfl⟩
abbrev main_call0_call0_call0_v57 : Ref sig .tc := ⟨.hbm, 140, rfl⟩
abbrev main_call0_call0_call0_v58 : Ref sig .tc := ⟨.hbm, 141, rfl⟩
abbrev main_call0_call0_call0_v59 : Ref sig .tc := ⟨.hbm, 142, rfl⟩
abbrev main_call0_call0_call0_v60 : Ref sig .tc := ⟨.hbm, 143, rfl⟩
abbrev main_call0_call0_call0_v61 : Ref sig .tc := ⟨.hbm, 144, rfl⟩
abbrev main_call0_call0_call0_c_15 : Ref sig .tc := ⟨.hbm, 145, rfl⟩
abbrev main_call0_call0_call0_v62 : Ref sig .tc := ⟨.hbm, 146, rfl⟩
abbrev main_call0_call0_call0_v63 : Ref sig .tc := ⟨.hbm, 147, rfl⟩
abbrev main_call0_call0_call0_c_16 : Ref sig .tc := ⟨.hbm, 148, rfl⟩
abbrev main_call0_call0_call0_v64 : Ref sig .tc := ⟨.hbm, 149, rfl⟩
abbrev main_call0_call0_call0_v65 : Ref sig .tc := ⟨.hbm, 150, rfl⟩
abbrev main_call0_call0_call0_v66 : Ref sig .tc := ⟨.hbm, 151, rfl⟩
abbrev main_call0_call0_call0_v67 : Ref sig .tc := ⟨.hbm, 152, rfl⟩
abbrev main_call0_call0_call0_v68 : Ref sig .tc := ⟨.hbm, 153, rfl⟩
abbrev main_call0_call0_call0_v69 : Ref sig .tc := ⟨.hbm, 154, rfl⟩
abbrev main_call0_call0_call0_v70 : Ref sig .tc := ⟨.hbm, 155, rfl⟩
abbrev main_call0_call0_call0_v71 : Ref sig .tc := ⟨.hbm, 156, rfl⟩
abbrev main_call0_call0_call0_c_17 : Ref sig .tc := ⟨.hbm, 157, rfl⟩
abbrev main_call0_call0_call0_v72 : Ref sig .tc := ⟨.hbm, 158, rfl⟩
abbrev main_call0_call0_call0_v73 : Ref sig .tc := ⟨.hbm, 159, rfl⟩
abbrev main_call0_call0_call0_v74 : Ref sig .tc := ⟨.hbm, 160, rfl⟩
abbrev main_call0_call0_call0_c_18 : Ref sig .tc := ⟨.hbm, 161, rfl⟩
abbrev main_call0_call0_call0_v75 : Ref sig .tc := ⟨.hbm, 162, rfl⟩
abbrev main_call0_call0_call0_v76 : Ref sig .tc := ⟨.hbm, 163, rfl⟩
abbrev main_call0_call0_call0_c_19 : Ref sig .tc := ⟨.hbm, 164, rfl⟩
abbrev main_call0_call0_call0_v77 : Ref sig .tc := ⟨.hbm, 165, rfl⟩
abbrev main_call0_call0_call0_v78 : Ref sig .tc := ⟨.hbm, 166, rfl⟩
abbrev main_call0_call0_call0_v79 : Ref sig .tc := ⟨.hbm, 167, rfl⟩
abbrev main_call0_call0_call0_v80 : Ref sig .tc := ⟨.hbm, 168, rfl⟩
abbrev main_call0_call0_call0_v81 : Ref sig .tc := ⟨.hbm, 169, rfl⟩
abbrev main_call0_call0_call0_c_20 : Ref sig .tc := ⟨.hbm, 170, rfl⟩
abbrev main_call0_call0_call0_v82 : Ref sig .tc := ⟨.hbm, 171, rfl⟩
abbrev main_call0_call0_call0_v83 : Ref sig .tc := ⟨.hbm, 172, rfl⟩
abbrev main_call0_call0_call0_c_21 : Ref sig .tc := ⟨.hbm, 173, rfl⟩
abbrev main_call0_call0_call0_v84 : Ref sig .tc := ⟨.hbm, 174, rfl⟩
abbrev main_call0_call0_call0_v85 : Ref sig .tc := ⟨.hbm, 175, rfl⟩
abbrev main_call0_call0_call0_v86 : Ref sig .tc := ⟨.hbm, 176, rfl⟩
abbrev main_call0_call0_call0_v87 : Ref sig .tc := ⟨.hbm, 177, rfl⟩
abbrev main_call0_call0_call0_v88 : Ref sig .tc := ⟨.hbm, 178, rfl⟩
abbrev main_call0_call0_call0_c_22 : Ref sig .tc := ⟨.hbm, 179, rfl⟩
abbrev main_call0_call0_call0_v89 : Ref sig .tc := ⟨.hbm, 180, rfl⟩
abbrev main_call0_call0_call0_v90 : Ref sig .tc := ⟨.hbm, 181, rfl⟩
abbrev main_call0_call0_call0_c_23 : Ref sig .tc := ⟨.hbm, 182, rfl⟩
abbrev main_call0_call0_call0_v91 : Ref sig .tc := ⟨.hbm, 183, rfl⟩
abbrev main_call0_call0_call0_v92 : Ref sig .tc := ⟨.hbm, 184, rfl⟩
abbrev main_call0_call0_call0_v93 : Ref sig .tc := ⟨.hbm, 185, rfl⟩
abbrev main_call0_call0_call0_v94 : Ref sig .tc := ⟨.hbm, 186, rfl⟩
abbrev main_call0_call0_call0_v95 : Ref sig .tc := ⟨.hbm, 187, rfl⟩
abbrev main_call0_call0_call0_c_24 : Ref sig .tc := ⟨.hbm, 188, rfl⟩
abbrev main_call0_call0_call0_v96 : Ref sig .tc := ⟨.hbm, 189, rfl⟩
abbrev main_call0_call0_call0_v97 : Ref sig .tc := ⟨.hbm, 190, rfl⟩
abbrev main_call0_call0_call0_c_25 : Ref sig .tc := ⟨.hbm, 191, rfl⟩
abbrev main_call0_call0_call0_v98 : Ref sig .tc := ⟨.hbm, 192, rfl⟩
abbrev main_call0_call0_call0_v99 : Ref sig .tc := ⟨.hbm, 193, rfl⟩
abbrev main_call0_call0_call0_v100 : Ref sig .tc := ⟨.hbm, 194, rfl⟩
abbrev main_call0_call0_call0_v101 : Ref sig .tc := ⟨.hbm, 195, rfl⟩
abbrev main_call0_call0_call0_v102 : Ref sig .tc := ⟨.hbm, 196, rfl⟩
abbrev main_call0_call0_call0_v103 : Ref sig .tc := ⟨.hbm, 197, rfl⟩
abbrev main_call0_call0_call0_v104 : Ref sig .tc := ⟨.hbm, 198, rfl⟩
abbrev main_call0_call0_call0_v105 : Ref sig .tc := ⟨.hbm, 199, rfl⟩
abbrev main_call0_call0_call0_c_26 : Ref sig .tc := ⟨.hbm, 200, rfl⟩
abbrev main_call0_call0_call0_v106 : Ref sig .tc := ⟨.hbm, 201, rfl⟩
abbrev main_call0_call0_call0_v107 : Ref sig .tc := ⟨.hbm, 202, rfl⟩
abbrev main_call0_call0_call0_v108 : Ref sig .tc := ⟨.hbm, 203, rfl⟩
abbrev main_call0_call0_call0_c_27 : Ref sig .tc := ⟨.hbm, 204, rfl⟩
abbrev main_call0_call0_call0_v109 : Ref sig .tc := ⟨.hbm, 205, rfl⟩
abbrev main_call0_call0_call0_v110 : Ref sig .tc := ⟨.hbm, 206, rfl⟩
abbrev main_call0_call0_call0_c_28 : Ref sig .tc := ⟨.hbm, 207, rfl⟩
abbrev main_call0_call0_call0_v111 : Ref sig .tc := ⟨.hbm, 208, rfl⟩
abbrev main_call0_call0_call0_v112 : Ref sig .tc := ⟨.hbm, 209, rfl⟩
abbrev main_call0_call0_call0_v113 : Ref sig .tc := ⟨.hbm, 210, rfl⟩
abbrev main_call0_call0_call0_v114 : Ref sig .tc := ⟨.hbm, 211, rfl⟩
abbrev main_call0_call0_call0_v115 : Ref sig .tc := ⟨.hbm, 212, rfl⟩
abbrev main_call0_call0_call0_c_29 : Ref sig .tc := ⟨.hbm, 213, rfl⟩
abbrev main_call0_call0_call0_v116 : Ref sig .tc := ⟨.hbm, 214, rfl⟩
abbrev main_call0_call0_call0_v117 : Ref sig .tc := ⟨.hbm, 215, rfl⟩
abbrev main_call0_call0_call0_c_30 : Ref sig .tc := ⟨.hbm, 216, rfl⟩
abbrev main_call0_call0_call0_v118 : Ref sig .tc := ⟨.hbm, 217, rfl⟩
abbrev main_call0_call0_call0_v119 : Ref sig .tc := ⟨.hbm, 218, rfl⟩
abbrev main_call0_call0_call0_v120 : Ref sig .tc := ⟨.hbm, 219, rfl⟩
abbrev main_call0_call0_call0_v121 : Ref sig .tc := ⟨.hbm, 220, rfl⟩
abbrev main_call0_call0_call0_v122 : Ref sig .tc := ⟨.hbm, 221, rfl⟩
abbrev main_call0_call0_call0_c_31 : Ref sig .tc := ⟨.hbm, 222, rfl⟩
abbrev main_call0_call0_call0_v123 : Ref sig .tc := ⟨.hbm, 223, rfl⟩
abbrev main_call0_call0_call0_v124 : Ref sig .tc := ⟨.hbm, 224, rfl⟩
abbrev main_call0_call0_call0_c_32 : Ref sig .tc := ⟨.hbm, 225, rfl⟩
abbrev main_call0_call0_call0_v125 : Ref sig .tc := ⟨.hbm, 226, rfl⟩
abbrev main_call0_call0_call0_v126 : Ref sig .tc := ⟨.hbm, 227, rfl⟩
abbrev main_call0_call0_call0_v127 : Ref sig .tc := ⟨.hbm, 228, rfl⟩
abbrev main_call0_call0_call0_v128 : Ref sig .tc := ⟨.hbm, 229, rfl⟩
abbrev main_call0_call0_call0_v129 : Ref sig .tc := ⟨.hbm, 230, rfl⟩
abbrev main_call0_call0_call0_c_33 : Ref sig .tc := ⟨.hbm, 231, rfl⟩
abbrev main_call0_call0_call0_v130 : Ref sig .tc := ⟨.hbm, 232, rfl⟩
abbrev main_call0_call0_call0_v131 : Ref sig .tc := ⟨.hbm, 233, rfl⟩
abbrev main_call0_call0_call0_c_34 : Ref sig .tc := ⟨.hbm, 234, rfl⟩
abbrev main_call0_call0_call0_v132 : Ref sig .tc := ⟨.hbm, 235, rfl⟩
abbrev main_call0_call0_call0_v133 : Ref sig .tc := ⟨.hbm, 236, rfl⟩
abbrev main_call0_call0_call0_v134 : Ref sig .tc := ⟨.hbm, 237, rfl⟩
abbrev main_call0_call0_call0_v135 : Ref sig .tc := ⟨.hbm, 238, rfl⟩
abbrev main_call0_call0_call0_v136 : Ref sig .tc := ⟨.hbm, 239, rfl⟩
abbrev main_call0_call0_call0_v137 : Ref sig .tc := ⟨.hbm, 240, rfl⟩
abbrev main_call0_call0_call0_v138 : Ref sig .tc := ⟨.hbm, 241, rfl⟩
abbrev main_call0_call0_call0_v139 : Ref sig .tc := ⟨.hbm, 242, rfl⟩
abbrev main_call0_call0_call0_c_35 : Ref sig .tc := ⟨.hbm, 243, rfl⟩
abbrev main_call0_call0_call0_v140 : Ref sig .tc := ⟨.hbm, 244, rfl⟩
abbrev main_call0_call0_call0_v141 : Ref sig .tc := ⟨.hbm, 245, rfl⟩
abbrev main_call0_call0_call0_v142 : Ref sig .tc := ⟨.hbm, 246, rfl⟩
abbrev main_call0_call0_call0_c_36 : Ref sig .tc := ⟨.hbm, 247, rfl⟩
abbrev main_call0_call0_call0_v143 : Ref sig .tc := ⟨.hbm, 248, rfl⟩
abbrev main_call0_call0_call0_v144 : Ref sig .tc := ⟨.hbm, 249, rfl⟩
abbrev main_call0_call0_call0_c_37 : Ref sig .tc := ⟨.hbm, 250, rfl⟩
abbrev main_call0_call0_call0_v145 : Ref sig .tc := ⟨.hbm, 251, rfl⟩
abbrev main_call0_call0_call0_v146 : Ref sig .tc := ⟨.hbm, 252, rfl⟩
abbrev main_call0_call0_call0_v147 : Ref sig .tc := ⟨.hbm, 253, rfl⟩
abbrev main_call0_call0_call0_v148 : Ref sig .tc := ⟨.hbm, 254, rfl⟩
abbrev main_call0_call0_call0_v149 : Ref sig .tc := ⟨.hbm, 255, rfl⟩
abbrev main_call0_call0_call0_c_38 : Ref sig .tc := ⟨.hbm, 256, rfl⟩
abbrev main_call0_call0_call0_v150 : Ref sig .tc := ⟨.hbm, 257, rfl⟩
abbrev main_call0_call0_call0_v151 : Ref sig .tc := ⟨.hbm, 258, rfl⟩
abbrev main_call0_call0_call0_c_39 : Ref sig .tc := ⟨.hbm, 259, rfl⟩
abbrev main_call0_call0_call0_v152 : Ref sig .tc := ⟨.hbm, 260, rfl⟩
abbrev main_call0_call0_call0_v153 : Ref sig .tc := ⟨.hbm, 261, rfl⟩
abbrev main_call0_call0_call0_v154 : Ref sig .tc := ⟨.hbm, 262, rfl⟩
abbrev main_call0_call0_call0_v155 : Ref sig .tc := ⟨.hbm, 263, rfl⟩
abbrev main_call0_call0_call0_v156 : Ref sig .tc := ⟨.hbm, 264, rfl⟩
abbrev main_call0_call0_call0_c_40 : Ref sig .tc := ⟨.hbm, 265, rfl⟩
abbrev main_call0_call0_call0_v157 : Ref sig .tc := ⟨.hbm, 266, rfl⟩
abbrev main_call0_call0_call0_v158 : Ref sig .tc := ⟨.hbm, 267, rfl⟩
abbrev main_call0_call0_call0_c_41 : Ref sig .tc := ⟨.hbm, 268, rfl⟩
abbrev main_call0_call0_call0_v159 : Ref sig .tc := ⟨.hbm, 269, rfl⟩
abbrev main_call0_call0_call0_v160 : Ref sig .tc := ⟨.hbm, 270, rfl⟩
abbrev main_call0_call0_call0_v161 : Ref sig .tc := ⟨.hbm, 271, rfl⟩
abbrev main_call0_call0_call0_v162 : Ref sig .tc := ⟨.hbm, 272, rfl⟩
abbrev main_call0_call0_call0_v163 : Ref sig .tc := ⟨.hbm, 273, rfl⟩
abbrev main_call0_call0_call0_c_42 : Ref sig .tc := ⟨.hbm, 274, rfl⟩
abbrev main_call0_call0_call0_v164 : Ref sig .tc := ⟨.hbm, 275, rfl⟩
abbrev main_call0_call0_call0_v165 : Ref sig .tc := ⟨.hbm, 276, rfl⟩
abbrev main_call0_call0_call0_c_43 : Ref sig .tc := ⟨.hbm, 277, rfl⟩
abbrev main_call0_call0_call0_v166 : Ref sig .tc := ⟨.hbm, 278, rfl⟩
abbrev main_call0_call0_call0_v167 : Ref sig .tc := ⟨.hbm, 279, rfl⟩
abbrev main_call0_call0_call0_v168 : Ref sig .tc := ⟨.hbm, 280, rfl⟩
abbrev main_call0_call0_call0_v169 : Ref sig .tc := ⟨.hbm, 281, rfl⟩
abbrev main_call0_call0_call0_v170 : Ref sig .tc := ⟨.hbm, 282, rfl⟩
abbrev main_call0_call0_v26_0 : Ref sig .tc := ⟨.hbm, 283, rfl⟩
abbrev main_call0_call0_call0_v172 : Ref sig .tc := ⟨.hbm, 284, rfl⟩
abbrev main_call0_call0_call0_v173 : Ref sig .tc := ⟨.hbm, 285, rfl⟩
abbrev main_call0_call0_call0_c_44 : Ref sig .tc := ⟨.hbm, 286, rfl⟩
abbrev main_call0_call0_call0_v174 : Ref sig .tc := ⟨.hbm, 287, rfl⟩
abbrev main_call0_call0_v26_1 : Ref sig .tc := ⟨.hbm, 288, rfl⟩
abbrev main_call0_call0_v27 : Ref sig .tc := ⟨.hbm, 289, rfl⟩
abbrev main_call0_call0_c_4 : Ref sig .tc := ⟨.hbm, 290, rfl⟩
abbrev main_call0_call0_v28 : Ref sig .tc := ⟨.hbm, 291, rfl⟩
abbrev main_call0_call0_v29 : Ref sig .tc := ⟨.hbm, 292, rfl⟩
abbrev main_call0_call0_c_5 : Ref sig .tc := ⟨.hbm, 293, rfl⟩
abbrev main_call0_call0_v30 : Ref sig .tc := ⟨.hbm, 294, rfl⟩
abbrev main_call0_call0_v31 : Ref sig .tc := ⟨.hbm, 295, rfl⟩
abbrev main_call0_call0_v32 : Ref sig .tc := ⟨.hbm, 296, rfl⟩
abbrev main_call0_call0_cst : Ref sig .tc := ⟨.hbm, 297, rfl⟩
abbrev main_call0_call0_v33 : Ref sig .tc := ⟨.hbm, 298, rfl⟩
abbrev main_call0_call0_v34 : Ref sig .tc := ⟨.hbm, 299, rfl⟩
abbrev main_call0_call0_v35 : Ref sig .tc := ⟨.hbm, 300, rfl⟩
abbrev main_call0_call0_v36 : Ref sig .tc := ⟨.hbm, 301, rfl⟩
abbrev main_call0_call0_v37 : Ref sig .tc := ⟨.hbm, 302, rfl⟩
abbrev main_call0_call0_v38 : Ref sig .tc := ⟨.hbm, 303, rfl⟩
abbrev main_call0_call0_v39 : Ref sig .tc := ⟨.hbm, 304, rfl⟩
abbrev main_call0_call0_v40 : Ref sig .tc := ⟨.hbm, 305, rfl⟩
abbrev main_call0_v0 : Ref sig .tc := ⟨.hbm, 306, rfl⟩
abbrev main_call0_v1 : Ref sig .tc := ⟨.hbm, 307, rfl⟩
abbrev main_call0_v2 : Ref sig .tc := ⟨.hbm, 308, rfl⟩
abbrev main_call0_v3 : Ref sig .tc := ⟨.hbm, 309, rfl⟩
abbrev main_v23 : Ref sig .tc := ⟨.hbm, 310, rfl⟩
abbrev main_v24 : Ref sig .tc := ⟨.hbm, 311, rfl⟩
abbrev main_v25 : Ref sig .tc := ⟨.hbm, 312, rfl⟩
abbrev main_v26 : Ref sig .tc := ⟨.hbm, 313, rfl⟩
abbrev main_call1_v0 : Ref sig .tc := ⟨.hbm, 314, rfl⟩
abbrev main_call1_cst : Ref sig .tc := ⟨.hbm, 315, rfl⟩
abbrev main_call1_c : Ref sig .tc := ⟨.hbm, 316, rfl⟩
abbrev main_call1_v1_0 : Ref sig .tc := ⟨.hbm, 317, rfl⟩
abbrev main_v27 : Ref sig .tc := ⟨.hbm, 318, rfl⟩
abbrev main_call2_v0 : Ref sig .tc := ⟨.hbm, 319, rfl⟩
abbrev main_call2_v1 : Ref sig .tc := ⟨.hbm, 320, rfl⟩
abbrev main_call2_v2 : Ref sig .tc := ⟨.hbm, 321, rfl⟩
abbrev main_call2_v3 : Ref sig .tc := ⟨.hbm, 322, rfl⟩
abbrev main_call2_v4 : Ref sig .tc := ⟨.hbm, 323, rfl⟩
abbrev main_v28 : Ref sig .tc := ⟨.hbm, 324, rfl⟩
abbrev main_v29 : Ref sig .tc := ⟨.hbm, 325, rfl⟩
abbrev main_v30 : Ref sig .tc := ⟨.hbm, 326, rfl⟩
abbrev main_v31 : Ref sig .tc := ⟨.hbm, 327, rfl⟩
abbrev main_v32 : Ref sig .tc := ⟨.hbm, 328, rfl⟩
abbrev main_v33 : Ref sig .tc := ⟨.hbm, 329, rfl⟩
abbrev main_v34 : Ref sig .tc := ⟨.hbm, 330, rfl⟩
abbrev main_v35 : Ref sig .tc := ⟨.hbm, 331, rfl⟩
abbrev main_v36 : Ref sig .tc := ⟨.hbm, 332, rfl⟩
abbrev main_v37 : Ref sig .tc := ⟨.hbm, 333, rfl⟩

abbrev nD : Nat := 1
abbrev τ : Topo := Topo.v7x

variable {F : FTy → Type} [FloatOps F]
-- ==== Proof.Line.lean ====
/-
  A straight line of host operations in single assignment, by what holds of the FINAL contents.

  Every buffer of the reference program is written by one operation, and an operation reads only buffers of a smaller
  number than the one it writes. So the contents at the end of the run satisfy every operation's defining equation at
  once. `Line p n m Q` says that: `p` is a line of operations that writes only buffers numbered from `n` up to `m`, and
  `Q` holds of any contents that agree, below `m`, with what the line leaves. The rules below take a line apart from its
  first operation, each adding that operation's equation as a premise of `Q`.
-/
module

public import Idealize.ShloMosaic.Lib.StableHlo.Run
public import Idealize.ShloMosaic.Lib.StableHlo.RunHlo
public import Idealize.ShloMosaic.PureOps

@[expose] public section

namespace Cert.Line

open Idealize.ShloMosaic Idealize.ShloMosaic.StableHlo Idealize.SL.Sem

variable {nD : Nat} {τ : Topo} {sig : RefSig} {Val : EltTy → Type} {Λ : Labels}

/-- A buffer's number: its index in its memory space. -/
def num (r : Ref sig .tc) : ℕ := r.idx.val

/-- The contents of a typed reference's buffer, at the reference's own type. -/
def rd {T : BufTy} (W : Valuation τ sig Val) (x : TRef sig T) : T.Contents Val := x.ofBuf (W (Proc.devRef .tc x.ref))

/-- `p` is a line of host operations that writes only buffers numbered in `[n, m)`; contents that agree below `m` with
    what the line leaves satisfy `Q`. -/
def Line (p : Prog (TpuEff nD τ sig Val Λ .tc) PUnit) (n m : ℕ) (Q : Valuation τ sig Val → Prop) : Prop :=
  ∃ ops : List (HloOp τ sig Val), p = seq ops ∧ n ≤ m ∧ (∀ op ∈ ops, op.bufs ⊆ tcRefs τ sig) ∧ (∀ op ∈ ops, op.fresh = ∅)
    ∧ (∀ op ∈ ops, ∀ b : Ref sig .tc, Proc.devRef .tc b ∈ op.writes → n ≤ num b ∧ num b < m)
    ∧ ∀ V W : Valuation τ sig Val, (∀ b : Ref sig .tc, num b < m → W (Proc.devRef .tc b) = after ops V (Proc.devRef .tc b)) → Q W

/-- What follows from a line's facts also holds after it. -/
theorem Line.mono {p : Prog (TpuEff nD τ sig Val Λ .tc) PUnit} {n m : ℕ} {Q Q' : Valuation τ sig Val → Prop}
    (h : Line p n m Q) (hQ : ∀ W, Q W → Q' W) : Line p n m Q' := by
  obtain ⟨ops, h1, h2, h3, h4, h5, h6⟩ := h
  exact ⟨ops, h1, h2, h3, h4, h5, fun V W hW => hQ W (h6 V W hW)⟩

/-- The empty line. -/
theorem Line.nil {n m : ℕ} {Q : Valuation τ sig Val → Prop} (hnm : n ≤ m) (hQ : ∀ W, Q W) :
    Line (pure ⟨⟩ : Prog (TpuEff nD τ sig Val Λ .tc) PUnit) n m Q :=
  ⟨[], rfl, hnm, by simp, by simp, by simp, fun _ W _ => hQ W⟩

/-- One operation before a line. `y` is the one buffer that the operation writes, `rs` the buffers that it reads, and `E`
    what its result says of contents in which `y` holds that result and `rs` are as before. -/
theorem Line.step {op : HloOp τ sig Val} {y : Ref sig .tc} {rs : List (Ref sig .tc)} {E : Valuation τ sig Val → Prop}
    (hb : op.bufs ⊆ tcRefs τ sig) (hf : op.fresh = ∅) (hw : op.writes = {Proc.devRef .tc y})
    (hE : ∀ V W : Valuation τ sig Val, W (Proc.devRef .tc y) = op.result V (Proc.devRef .tc y)
      → (∀ r ∈ rs, W (Proc.devRef .tc r) = V (Proc.devRef .tc r)) → E W)
    {k : Prog (TpuEff nD τ sig Val Λ .tc) PUnit} {n m : ℕ} {Q : Valuation τ sig Val → Prop}
    (hn : n ≤ num y) (hr : ∀ r ∈ rs, num r < num y) (hk : Line k (num y + 1) m fun W => E W → Q W) :
    Line ((hlo rfl op fun _ => .ret (⟨⟩ : PUnit)) >>= fun _ => k) n m Q := by
  obtain ⟨ops, h1, h2, h3, h4, h5, h6⟩ := hk
  refine ⟨op :: ops, by rw [h1]; rfl, by omega, ?_, ?_, ?_, ?_⟩
  · intro o ho
    rcases List.mem_cons.mp ho with rfl | ho
    exacts [hb, h3 o ho]
  · intro o ho
    rcases List.mem_cons.mp ho with rfl | ho
    exacts [hf, h4 o ho]
  · intro o ho b hbw
    rcases List.mem_cons.mp ho with rfl | ho
    · rw [hw] at hbw
      have := Proc.devRef_injective _ (Finset.mem_singleton.mp hbw)
      subst this
      omega
    · have := h5 o ho b hbw
      omega
  · intro V W hW
    have keep : ∀ b : Ref sig .tc, num b < num y + 1 → W (Proc.devRef .tc b) = op.result V (Proc.devRef .tc b) := by
      intro b hlt
      rw [hW b (by omega), after_cons]
      refine after_of_forall_not_mem ops _ fun o ho hbw => ?_
      have := (h5 o ho b hbw).1
      omega
    refine h6 (op.result V) W (fun b hlt => hW b hlt) (hE V W (keep y (by omega)) fun r hrs => ?_)
    have hlt := hr r hrs
    rw [keep r (by omega)]
    refine op.result_of_not_mem V ?_
    rw [hw]
    intro hm
    have := Proc.devRef_injective _ (Finset.mem_singleton.mp hm)
    subst this
    omega

/-- Two lines, one after the other: the second may use what the first establishes. -/
theorem Line.bind {p k : Prog (TpuEff nD τ sig Val Λ .tc) PUnit} {n l m : ℕ} {R Q : Valuation τ sig Val → Prop}
    (hp : Line p n l R) (hk : Line k l m fun W => R W → Q W) : Line (p >>= fun _ => k) n m Q := by
  obtain ⟨ops, h1, h2, h3, h4, h5, h6⟩ := hp
  obtain ⟨ops', g1, g2, g3, g4, g5, g6⟩ := hk
  refine ⟨ops ++ ops', by rw [seq_append, h1, g1], by omega, ?_, ?_, ?_, ?_⟩
  · intro o ho
    rcases List.mem_append.mp ho with ho | ho
    exacts [h3 o ho, g3 o ho]
  · intro o ho
    rcases List.mem_append.mp ho with ho | ho
    exacts [h4 o ho, g4 o ho]
  · intro o ho b hbw
    rcases List.mem_append.mp ho with ho | ho
    · have := h5 o ho b hbw; omega
    · have := g5 o ho b hbw; omega
  · intro V W hW
    have happ : ∀ (l₁ l₂ : List (HloOp τ sig Val)) (V : Valuation τ sig Val), after (l₁ ++ l₂) V = after l₂ (after l₁ V) := by
      intro l₁ l₂
      induction l₁ with
      | nil => intro V; rfl
      | cons o l ih => intro V; exact ih _
    rw [happ] at hW
    refine g6 (after ops V) W hW (h6 V W fun b hlt => ?_)
    rw [hW b (by omega)]
    refine after_of_forall_not_mem ops' _ fun o ho hbw => ?_
    have := (g5 o ho b hbw).1
    omega

/-- A line may end in one operation rather than in the return. -/
theorem Line.last {op : HloOp τ sig Val} {n m : ℕ} {Q : Valuation τ sig Val → Prop}
    (h : Line ((hlo rfl op fun _ => .ret (⟨⟩ : PUnit)) >>= fun _ => (pure ⟨⟩ : Prog (TpuEff nD τ sig Val Λ .tc) PUnit)) n m Q) :
    Line (hlo rfl op fun _ => .ret (⟨⟩ : PUnit) : Prog (TpuEff nD τ sig Val Λ .tc) PUnit) n m Q := h

section Rules

variable {k : Prog (TpuEff nD τ sig Val Λ .tc) PUnit} {n m : ℕ} {Q : Valuation τ sig Val → Prop}

/-- A constant at a typed reference. -/
theorem Line.tnullary {Ty : BufTy} {y : TRef sig Ty} {v : Ty.Contents Val} (hn : n ≤ num y.ref)
    (hk : Line k (num y.ref + 1) m fun W => rd W y = v → Q W) :
    Line ((hlo rfl (TRef.nullary y v) fun _ => .ret (⟨⟩ : PUnit)) >>= fun _ => k) n m Q := by
  refine Line.step (rs := []) ?_ rfl rfl ?_ hn (by simp) hk
  · intro b hb; rw [nullary_bufs] at hb; rw [Finset.mem_singleton.mp hb]; exact devRef_mem_tcRefs _
  · intro V W hy _
    rw [nullary_result'] at hy
    rw [rd, hy, TRef.ofBuf_toBuf]

/-- An operation of one operand at typed references. -/
theorem Line.tunary {Tx Ty : BufTy} {x : TRef sig Tx} {y : TRef sig Ty} {f : Tx.Contents Val → Ty.Contents Val}
    (hn : n ≤ num y.ref) (hx : num x.ref < num y.ref) (hk : Line k (num y.ref + 1) m fun W => rd W y = f (rd W x) → Q W) :
    Line ((hlo rfl (TRef.unary x y f) fun _ => .ret (⟨⟩ : PUnit)) >>= fun _ => k) n m Q := by
  refine Line.step (rs := [x.ref]) ?_ rfl rfl ?_ hn (by simpa using hx) hk
  · intro b hb; rw [unary_bufs] at hb; simp only [Finset.mem_insert, Finset.mem_singleton] at hb
    rcases hb with rfl | rfl <;> exact devRef_mem_tcRefs _
  · intro V W hy hr
    rw [unary_result', ← hr x.ref (by simp)] at hy
    rw [rd, hy, TRef.ofBuf_toBuf]; rfl

/-- An operation of two operands at typed references. -/
theorem Line.tbinary {Ta Tb Ty : BufTy} {a : TRef sig Ta} {b : TRef sig Tb} {y : TRef sig Ty}
    {f : Ta.Contents Val → Tb.Contents Val → Ty.Contents Val} (hn : n ≤ num y.ref) (ha : num a.ref < num y.ref)
    (hb : num b.ref < num y.ref) (hk : Line k (num y.ref + 1) m fun W => rd W y = f (rd W a) (rd W b) → Q W) :
    Line ((hlo rfl (TRef.binary a b y f) fun _ => .ret (⟨⟩ : PUnit)) >>= fun _ => k) n m Q := by
  refine Line.step (rs := [a.ref, b.ref]) ?_ rfl rfl ?_ hn (by simp [ha, hb]) hk
  · intro b hb; rw [binary_bufs] at hb; simp only [Finset.mem_insert, Finset.mem_singleton] at hb
    rcases hb with rfl | rfl | rfl <;> exact devRef_mem_tcRefs _
  · intro V W hy hr
    rw [binary_result', ← hr a.ref (by simp), ← hr b.ref (by simp)] at hy
    rw [rd, hy, TRef.ofBuf_toBuf]; rfl

/-- An operation of four operands at typed references. -/
theorem Line.tquaternary {Ta Tb Tc Te Ty : BufTy} {a : TRef sig Ta} {b : TRef sig Tb} {c : TRef sig Tc} {e : TRef sig Te} {y : TRef sig Ty}
    {f : Ta.Contents Val → Tb.Contents Val → Tc.Contents Val → Te.Contents Val → Ty.Contents Val} (hn : n ≤ num y.ref)
    (hx : num a.ref < num y.ref ∧ num b.ref < num y.ref ∧ num c.ref < num y.ref ∧ num e.ref < num y.ref)
    (hk : Line k (num y.ref + 1) m fun W => rd W y = f (rd W a) (rd W b) (rd W c) (rd W e) → Q W) :
    Line ((hlo rfl (TRef.quaternary a b c e y f) fun _ => .ret (⟨⟩ : PUnit)) >>= fun _ => k) n m Q := by
  obtain ⟨h1, h2, h3, h4⟩ := hx
  refine Line.step (rs := [a.ref, b.ref, c.ref, e.ref]) ?_ rfl rfl ?_ hn (by simp [h1, h2, h3, h4]) hk
  · intro b hb; rw [quaternary_bufs] at hb; simp only [Finset.mem_insert, Finset.mem_singleton] at hb
    rcases hb with rfl | rfl | rfl | rfl | rfl <;> exact devRef_mem_tcRefs _
  · intro V W hy hr
    rw [quaternary_result', ← hr a.ref (by simp), ← hr b.ref (by simp), ← hr c.ref (by simp), ← hr e.ref (by simp)] at hy
    rw [rd, hy, TRef.ofBuf_toBuf]; rfl

/-- A constant. -/
theorem Line.nullary {y : Ref sig .tc} {v : y.ty.Contents Val} {hy} (hn : n ≤ num y)
    (hk : Line k (num y + 1) m fun W => W (Proc.devRef .tc y) = v → Q W) :
    Line ((hlo rfl (StableHlo.nullary y v hy) fun _ => .ret (⟨⟩ : PUnit)) >>= fun _ => k) n m Q := by
  refine Line.step (rs := []) ?_ rfl rfl ?_ hn (by simp) hk
  · intro b hb; rw [nullary_bufs] at hb; rw [Finset.mem_singleton.mp hb]; exact devRef_mem_tcRefs _
  · intro V W hy _
    rw [nullary_result'] at hy
    exact hy

/-- An operation of one operand. -/
theorem Line.unary {x y : Ref sig .tc} {f : x.ty.Contents Val → y.ty.Contents Val} {hx hy}
    (hn : n ≤ num y) (hxn : num x < num y) (hk : Line k (num y + 1) m fun W => W (Proc.devRef .tc y) = f (W (Proc.devRef .tc x)) → Q W) :
    Line ((hlo rfl (StableHlo.unary x y f hx hy) fun _ => .ret (⟨⟩ : PUnit)) >>= fun _ => k) n m Q := by
  refine Line.step (rs := [x]) ?_ rfl rfl ?_ hn (by simpa using hxn) hk
  · intro b hb; rw [unary_bufs] at hb; simp only [Finset.mem_insert, Finset.mem_singleton] at hb
    rcases hb with rfl | rfl <;> exact devRef_mem_tcRefs _
  · intro V W hy hr
    rw [unary_result', ← hr x (by simp)] at hy
    exact hy

/-- An operation of two operands. -/
theorem Line.binary {a b y : Ref sig .tc} {f : a.ty.Contents Val → b.ty.Contents Val → y.ty.Contents Val} {ha hb hy}
    (hn : n ≤ num y) (han : num a < num y) (hbn : num b < num y)
    (hk : Line k (num y + 1) m fun W => W (Proc.devRef .tc y) = f (W (Proc.devRef .tc a)) (W (Proc.devRef .tc b)) → Q W) :
    Line ((hlo rfl (StableHlo.binary a b y f ha hb hy) fun _ => .ret (⟨⟩ : PUnit)) >>= fun _ => k) n m Q := by
  refine Line.step (rs := [a, b]) ?_ rfl rfl ?_ hn (by simp [han, hbn]) hk
  · intro b hb; rw [binary_bufs] at hb; simp only [Finset.mem_insert, Finset.mem_singleton] at hb
    rcases hb with rfl | rfl | rfl <;> exact devRef_mem_tcRefs _
  · intro V W hy hr
    rw [binary_result', ← hr a (by simp), ← hr b (by simp)] at hy
    exact hy

/-- An operation of a family of operands. -/
theorem Line.nary {j : ℕ} {xs : Fin j → Ref sig .tc} {y : Ref sig .tc} {f : ((i : Fin j) → (xs i).ty.Contents Val) → y.ty.Contents Val} {hxs hy}
    (hn : n ≤ num y) (hx : ∀ i, num (xs i) < num y)
    (hk : Line k (num y + 1) m fun W => W (Proc.devRef .tc y) = f (fun i => W (Proc.devRef .tc (xs i))) → Q W) :
    Line ((hlo rfl (StableHlo.nary xs y f hxs hy) fun _ => .ret (⟨⟩ : PUnit)) >>= fun _ => k) n m Q := by
  refine Line.step (rs := List.ofFn xs) ?_ rfl rfl ?_ hn ?_ hk
  · intro b hb
    simp only [StableHlo.nary, Finset.mem_insert, Finset.mem_image, Finset.mem_univ, true_and] at hb
    rcases hb with rfl | ⟨i, rfl⟩ <;> exact devRef_mem_tcRefs _
  · intro V W hy hr
    rw [nary_result'] at hy
    rw [hy]
    congr 1
    funext i
    exact (hr (xs i) (List.mem_ofFn.mpr ⟨i, rfl⟩)).symm
  · intro r hr
    obtain ⟨i, rfl⟩ := List.mem_ofFn.mp hr
    exact hx i

/-- A reshape. -/
theorem Line.reshape {x y : Ref sig .tc} {he : x.ty.elt = y.ty.elt} {hs : x.ty.shape.ShapeCasts y.ty.shape} {hx hy} (hn : n ≤ num y) (hxn : num x < num y)
    (hk : Line k (num y + 1) m fun W =>
      W (Proc.devRef .tc y) = (fun i => he ▸ shapeCast y.ty.shape (W (Proc.devRef .tc x)) hs i) → Q W) :
    Line ((hlo rfl (StableHlo.reshape x y he hs hx hy) fun _ => .ret (⟨⟩ : PUnit)) >>= fun _ => k) n m Q := by
  refine Line.step (rs := [x]) ?_ rfl rfl ?_ hn (by simpa using hxn) hk
  · intro b hb; rw [reshape_bufs] at hb; simp only [Finset.mem_insert, Finset.mem_singleton] at hb
    rcases hb with rfl | rfl <;> exact devRef_mem_tcRefs _
  · intro V W hy hr
    rw [reshape_result', ← hr x (by simp)] at hy
    exact hy

/-- A reshape at typed references. -/
theorem Line.treshape {Tx Ty : BufTy} {x : TRef sig Tx} {y : TRef sig Ty} {he : Tx.elt = Ty.elt} {hs : Tx.shape.ShapeCasts Ty.shape}
    (hn : n ≤ num y.ref) (hx : num x.ref < num y.ref)
    (hk : Line k (num y.ref + 1) m fun W => rd W y = (fun i => he ▸ shapeCast Ty.shape (rd W x) hs i) → Q W) :
    Line ((hlo rfl (TRef.reshape x y he hs) fun _ => .ret (⟨⟩ : PUnit)) >>= fun _ => k) n m Q := by
  obtain ⟨r, rfl, _, _⟩ := y
  obtain ⟨r', rfl, _, _⟩ := x
  exact Line.reshape hn hx hk

end Rules

/-- A run of a line from any memory: it ends, with every counter at zero, in contents that satisfy `Q` and have not changed
    below the line's first number. -/
theorem Line.run {main : Dev nD → Prog (TpuEff nD τ sig Val Λ .tc) PUnit} {n l : ℕ} {Q : Valuation τ sig Val → Prop}
    (h : ∀ d, Line (main d) n l Q) (defs : Defs nD τ sig Val Λ)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r =>
      ∀ d : Dev nD, (∀ b : Ref sig .tc, num b < n → r.2.mem ((d.tc : Thread nD τ).loc b) = m ((d.tc : Thread nD τ).loc b))
        ∧ ∃ W : Valuation τ sig Val, Q W ∧ ∀ b : Ref sig .tc, r.2.mem ((d.tc : Thread nD τ).loc b) = W (Proc.devRef .tc b) := by
  choose ops h1 h2 h3 h4 h5 h6 using h
  refine θ_run_mono (run_seq hR hC defs main ops h1 (fun d => List.forall_iff_forall_mem.mpr (h3 d)) m ρ h4) ?_
  intro r hr d
  refine ⟨fun b hb => ?_, after (ops d) (launchContents m d), h6 d _ _ (fun _ _ => rfl), fun b => hr d b⟩
  rw [hr d b]
  refine after_of_forall_not_mem _ _ fun o ho hbw => ?_
  have := (h5 d o ho b hbw).1
  omega

end Cert.Line

end
-- ==== Proof.Threefry.lean ====
/-
  The counter-based generator of `jax.random` (Threefry-2x32, 20 rounds) on 32-bit words, and the random word that the
  sampler draws at a counter with the key of seed 42.
-/
module

public import Idealize.ShloMosaic.PureOps

@[expose] public section

namespace Cert.Threefry

open Idealize.ShloMosaic

/-- One round: add, rotate left (by `a`; `b` is 32 − `a`), exclusive or. -/
def round (a b : BitVec 32) (x : BitVec 32 × BitVec 32) : BitVec 32 × BitVec 32 :=
  (x.1 + x.2, (x.1 + x.2) ^^^ ((x.2 <<< a) ||| (x.2 >>> b)))

/-- The first schedule's four rounds. -/
def roundsA (x : BitVec 32 × BitVec 32) : BitVec 32 × BitVec 32 :=
  round 6#32 26#32 (round 26#32 6#32 (round 15#32 17#32 (round 13#32 19#32 x)))

/-- The second schedule's four rounds. -/
def roundsB (x : BitVec 32 × BitVec 32) : BitVec 32 × BitVec 32 :=
  round 24#32 8#32 (round 16#32 16#32 (round 29#32 3#32 (round 17#32 15#32 x)))

/-- A key injection. -/
def inject (k l : BitVec 32) (x : BitVec 32 × BitVec 32) : BitVec 32 × BitVec 32 := (x.1 + k, x.2 + l)

/-- The third key word. -/
def key2 (k0 k1 : BitVec 32) : BitVec 32 := k0 ^^^ k1 ^^^ 466688986#32

/-- Threefry-2x32 of the counter `(hi, lo)` under the key `(k0, k1)`. -/
def threefry (k0 k1 hi lo : BitVec 32) : BitVec 32 × BitVec 32 :=
  inject (key2 k0 k1) (k0 + 5#32) (roundsA
    (inject k1 (key2 k0 k1 + 4#32) (roundsB
      (inject k0 (k1 + 3#32) (roundsA
        (inject (key2 k0 k1) (k0 + 2#32) (roundsB
          (inject k1 (key2 k0 k1 + 1#32) (roundsA (inject k0 k1 (hi, lo)))))))))))

/-- The random word at the counter `c`, under the key of seed 42. -/
def draw (c : BitVec 32) : BitVec 32 := (threefry 0#32 42#32 0#32 c).1 ^^^ (threefry 0#32 42#32 0#32 c).2

end Cert.Threefry

end
-- ==== Proof.RefThreefry.lean ====
/-
  The reference's generator call, on its own line of operations: at every element the two words that it leaves are
  Threefry-2x32 of the two counter words it was given.
-/
module

public import proofs.«01_k».proof.Proof.Line
public import proofs.«01_k».proof.Proof.Threefry
public import Idealize.ShloMosaic.PureOps.Ideal
public import proofs.«01_k».proof.Proof.Gen.ReferenceIdeal

@[expose] public section

namespace Cert.RefRun

open Idealize.ShloMosaic Idealize.SL.Sem Cert.ReferenceIdeal Cert.Line Cert.Threefry

/-- Shifts by amounts below 32 are the machine's shifts. -/
theorem host_rot (x a b : BitVec 32) (ha : a.toNat < 32) (hb : b.toNat < 32) :
    IntOp.ori (IntOp.shli .host x a) (IntOp.shrui .host x b) = (x <<< a) ||| (x >>> b) := by
  rw [IntOp.shli, IntOp.shrui, if_pos ha, if_pos hb]; rfl

/-- The rotate-and-xor of a round, as the printer writes it: eight operations, taken in one step. -/
theorem mix {nD : Nat} {τ : Topo} {sig : RefSig} {Λ : Labels} {k : Prog (TpuEff nD τ sig (Elt Ideal) Λ .tc) PUnit} {n m : ℕ}
    {Q : Valuation τ sig (Elt Ideal) → Prop} {a b : BitVec 32} {hB hB' : S_.BroadcastsInDim S4x1024x2048x4 (![] : Fin 0 → Fin S4x1024x2048x4.rank)}
    {c₁ c₂ : StableHlo.TRef sig ⟨S_, .i32⟩} {b₁ s₁ b₂ s₂ o y x x₀ : StableHlo.TRef sig ⟨S4x1024x2048x4, .i32⟩}
    (hn : n ≤ num c₁.ref ∧ num c₁.ref < num b₁.ref ∧ num b₁.ref < num s₁.ref ∧ num s₁.ref < num c₂.ref ∧ num c₂.ref < num b₂.ref
      ∧ num b₂.ref < num s₂.ref ∧ num s₂.ref < num o.ref ∧ num o.ref < num y.ref ∧ num x.ref < num s₁.ref ∧ num x₀.ref < num y.ref)
    (hab : a.toNat < 32 ∧ b.toNat < 32)
    (hk : Line k (num y.ref + 1) m fun W => (∀ i, rd W y i = rd W x₀ i ^^^ ((rd W x i <<< a) ||| (rd W x i >>> b))) → Q W) :
    Line ((hlo rfl (StableHlo.TRef.nullary c₁ (constantI S_ 32 a)) fun _ => .ret (⟨⟩ : PUnit)) >>= fun _ =>
      (hlo rfl (StableHlo.TRef.unary c₁ b₁ (broadcastInDim S4x1024x2048x4 ![] hB)) fun _ => .ret (⟨⟩ : PUnit)) >>= fun _ =>
      (hlo rfl (StableHlo.TRef.binary x b₁ s₁ Host.shli) fun _ => .ret (⟨⟩ : PUnit)) >>= fun _ =>
      (hlo rfl (StableHlo.TRef.nullary c₂ (constantI S_ 32 b)) fun _ => .ret (⟨⟩ : PUnit)) >>= fun _ =>
      (hlo rfl (StableHlo.TRef.unary c₂ b₂ (broadcastInDim S4x1024x2048x4 ![] hB')) fun _ => .ret (⟨⟩ : PUnit)) >>= fun _ =>
      (hlo rfl (StableHlo.TRef.binary x b₂ s₂ Host.shrui) fun _ => .ret (⟨⟩ : PUnit)) >>= fun _ =>
      (hlo rfl (StableHlo.TRef.binary s₁ s₂ o ori) fun _ => .ret (⟨⟩ : PUnit)) >>= fun _ =>
      (hlo rfl (StableHlo.TRef.binary x₀ o y xori) fun _ => .ret (⟨⟩ : PUnit)) >>= fun _ => k) n m Q := by
  obtain ⟨h1, h2, h3, h4, h5, h6, h7, h8, h9, h10⟩ := hn
  refine Line.tnullary h1 ?_
  refine Line.tunary (by omega) h2 ?_
  refine Line.tbinary (by omega) h9 (by omega) ?_
  refine Line.tnullary (by omega) ?_
  refine Line.tunary (by omega) (by omega) ?_
  refine Line.tbinary (by omega) (by omega) (by omega) ?_
  refine Line.tbinary (by omega) (by omega) (by omega) ?_
  refine Line.tbinary (by omega) h10 h8 ?_
  refine hk.mono ?_
  intro W hQ e8 e7 e6 e5 e4 e3 e2 e1
  refine hQ fun i => ?_
  rw [e8, e7, e6, e5, e4, e3, e2, e1]
  exact congrArg (rd W x₀ i ^^^ ·) (host_rot _ a b hab.1 hab.2)

/-- A line may end in an operation: here after seven others. -/
theorem mix_last {nD : Nat} {τ : Topo} {sig : RefSig} {Λ : Labels} {o₁ o₂ o₃ o₄ o₅ o₆ o₇ o₈ : HloOp τ sig (Elt Ideal)} {n m : ℕ} {Q : Valuation τ sig (Elt Ideal) → Prop}
    (h : Line ((hlo rfl o₁ fun _ => .ret (⟨⟩ : PUnit)) >>= fun _ => (hlo rfl o₂ fun _ => .ret (⟨⟩ : PUnit)) >>= fun _ =>
      (hlo rfl o₃ fun _ => .ret (⟨⟩ : PUnit)) >>= fun _ => (hlo rfl o₄ fun _ => .ret (⟨⟩ : PUnit)) >>= fun _ =>
      (hlo rfl o₅ fun _ => .ret (⟨⟩ : PUnit)) >>= fun _ => (hlo rfl o₆ fun _ => .ret (⟨⟩ : PUnit)) >>= fun _ =>
      (hlo rfl o₇ fun _ => .ret (⟨⟩ : PUnit)) >>= fun _ => (hlo rfl o₈ fun _ => .ret (⟨⟩ : PUnit)) >>= fun _ =>
      (pure ⟨⟩ : Prog (TpuEff nD τ sig (Elt Ideal) Λ .tc) PUnit)) n m Q) :
    Line ((hlo rfl o₁ fun _ => .ret (⟨⟩ : PUnit)) >>= fun _ => (hlo rfl o₂ fun _ => .ret (⟨⟩ : PUnit)) >>= fun _ =>
      (hlo rfl o₃ fun _ => .ret (⟨⟩ : PUnit)) >>= fun _ => (hlo rfl o₄ fun _ => .ret (⟨⟩ : PUnit)) >>= fun _ =>
      (hlo rfl o₅ fun _ => .ret (⟨⟩ : PUnit)) >>= fun _ => (hlo rfl o₆ fun _ => .ret (⟨⟩ : PUnit)) >>= fun _ =>
      (hlo rfl o₇ fun _ => .ret (⟨⟩ : PUnit)) >>= fun _ =>
      (hlo rfl o₈ fun _ => .ret (⟨⟩ : PUnit) : Prog (TpuEff nD τ sig (Elt Ideal) Λ .tc) PUnit)) n m Q := h

/-- A key injection, as the printer writes it: seven operations, taken in one step. -/
theorem inj {nD : Nat} {τ : Topo} {sig : RefSig} {Λ : Labels} {k : Prog (TpuEff nD τ sig (Elt Ideal) Λ .tc) PUnit} {n m : ℕ}
    {Q : Valuation τ sig (Elt Ideal) → Prop} {t : BitVec 32} {hB hB' hB'' : S_.BroadcastsInDim S4x1024x2048x4 (![] : Fin 0 → Fin S4x1024x2048x4.rank)}
    {g h c : StableHlo.TRef sig ⟨S_, .i32⟩} {gb y₀ hb y cb z x₀ x₁ : StableHlo.TRef sig ⟨S4x1024x2048x4, .i32⟩}
    (hn : n ≤ num gb.ref ∧ num gb.ref < num y₀.ref ∧ num y₀.ref < num hb.ref ∧ num hb.ref < num y.ref ∧ num y.ref < num c.ref
      ∧ num c.ref < num cb.ref ∧ num cb.ref < num z.ref ∧ num x₀.ref < num y₀.ref ∧ num x₁.ref < num y.ref ∧ num g.ref < num gb.ref
      ∧ num h.ref < num hb.ref)
    (hk : Line k (num z.ref + 1) m fun W => (∀ K L, rd W g = (fun _ => K) → rd W h = (fun _ => L) →
      ∀ i, (rd W y₀ i, rd W z i) = inject K (L + t) (rd W x₀ i, rd W x₁ i)) → Q W) :
    Line ((hlo rfl (StableHlo.TRef.unary g gb (broadcastInDim S4x1024x2048x4 ![] hB)) fun _ => .ret (⟨⟩ : PUnit)) >>= fun _ =>
      (hlo rfl (StableHlo.TRef.binary x₀ gb y₀ addi) fun _ => .ret (⟨⟩ : PUnit)) >>= fun _ =>
      (hlo rfl (StableHlo.TRef.unary h hb (broadcastInDim S4x1024x2048x4 ![] hB')) fun _ => .ret (⟨⟩ : PUnit)) >>= fun _ =>
      (hlo rfl (StableHlo.TRef.binary x₁ hb y addi) fun _ => .ret (⟨⟩ : PUnit)) >>= fun _ =>
      (hlo rfl (StableHlo.TRef.nullary c (constantI S_ 32 t)) fun _ => .ret (⟨⟩ : PUnit)) >>= fun _ =>
      (hlo rfl (StableHlo.TRef.unary c cb (broadcastInDim S4x1024x2048x4 ![] hB'')) fun _ => .ret (⟨⟩ : PUnit)) >>= fun _ =>
      (hlo rfl (StableHlo.TRef.binary y cb z addi) fun _ => .ret (⟨⟩ : PUnit)) >>= fun _ => k) n m Q := by
  obtain ⟨h1, h2, h3, h4, h5, h6, h7, h8, h9, h10, h11⟩ := hn
  refine Line.tunary h1 h10 ?_
  refine Line.tbinary (by omega) h8 h2 ?_
  refine Line.tunary (by omega) h11 ?_
  refine Line.tbinary (by omega) h9 h4 ?_
  refine Line.tnullary (by omega) ?_
  refine Line.tunary (by omega) (by omega) ?_
  refine Line.tbinary (by omega) (by omega) (by omega) ?_
  refine hk.mono ?_
  intro W hQ e7 e6 e5 e4 e3 e2 e1
  refine hQ fun K L hK hL i => ?_
  rw [e7, e6, e5, e4, e3, e2, e1, hK, hL]
  exact congrArg (Prod.mk _) (BitVec.add_assoc _ _ _)

/-- A round's two words, from its addition and its rotate-and-xor. -/
theorem round_pair {s : Shape} {a b : BitVec 32} {x₀ x₁ s₀ y : s.Idx → BitVec 32} (h₀ : s₀ = addi x₀ x₁)
    (h : ∀ i, y i = s₀ i ^^^ ((x₁ i <<< a) ||| (x₁ i >>> b))) (i : s.Idx) : (s₀ i, y i) = round a b (x₀ i, x₁ i) := by
  rw [h, h₀]; rfl

attribute [local irreducible] rd

/-- The record of the one generator call. -/
def tb : fn_threefry2x32.Bufs := main_call0_call0_call0

/-- The record of the one call of the uniform sampler. -/
def ub : fn_uniform.Bufs := main_call0_call0

attribute [local irreducible] tb ub

/-- Statements 1 to 60: the first injection, four rounds, the second injection, and one more round. -/
theorem part0 : Line (nD := nD) (fn_threefry2x32.body_part0 (F := Ideal) ub.v4 ub.v6 ub.v25 ub.v24 tb) 67 127
    fun W => ∀ k0 k1, rd W ub.v4 = (fun _ => k0) → rd W ub.v6 = (fun _ => k1) →
      rd W tb.v1 = (fun _ => key2 k0 k1) ∧ (∀ i, (rd W tb.v40 i, rd W tb.v46 i) =
        round 17#32 15#32 (inject k1 (key2 k0 k1 + 1#32) (roundsA (inject k0 k1 (rd W ub.v25 i, rd W ub.v24 i)))))
        ∧ rd W tb.v47 = addi (rd W tb.v40) (rd W tb.v46) := by
  unfold fn_threefry2x32.body_part0
  refine Line.tbinary (by decide +kernel) (by decide +kernel) (by decide +kernel) ?_
  refine Line.tnullary (by decide +kernel) ?_
  refine Line.tbinary (by decide +kernel) (by decide +kernel) (by decide +kernel) ?_
  refine Line.tunary (by decide +kernel) (by decide +kernel) ?_
  refine Line.tbinary (by decide +kernel) (by decide +kernel) (by decide +kernel) ?_
  refine Line.tunary (by decide +kernel) (by decide +kernel) ?_
  refine Line.tbinary (by decide +kernel) (by decide +kernel) (by decide +kernel) ?_
  iterate 4
    refine Line.tbinary (by decide +kernel) (by decide +kernel) (by decide +kernel) ?_
    refine mix (by decide +kernel) (by decide +kernel) ?_
  refine inj (by decide +kernel) ?_
  refine Line.tbinary (by decide +kernel) (by decide +kernel) (by decide +kernel) ?_
  refine mix (by decide +kernel) (by decide +kernel) ?_
  refine Line.last ?_
  refine Line.tbinary (by decide +kernel) (by decide +kernel) (by decide +kernel) ?_
  refine Line.nil (by decide +kernel) ?_
  intro W b6 m5 b5 inj1 m4 b4 m3 b3 m2 b2 m1 b1 a5 a4 a3 a2 a1 a0c a0 k0 k1 h0 h1
  have hk2 : rd W tb.v1 = (fun _ => key2 k0 k1) := by rw [a1, a0c, a0, h0, h1]; rfl
  refine ⟨hk2, fun i => ?_, b6⟩
  rw [round_pair b5 m5, inj1 _ _ h1 hk2, round_pair b4 m4, round_pair b3 m3, round_pair b2 m2, round_pair b1 m1, a5, a4, a3, a2, h0, h1]
  rfl

/-- Statements 61 to 120: three rounds, the third injection, and three rounds. -/
theorem part1 : Line (nD := nD) (fn_threefry2x32.body_part1 (F := Ideal) ub.v4 ub.v6 ub.v25 ub.v24 tb) 127 187
    fun W => rd W tb.v47 = addi (rd W tb.v40) (rd W tb.v46) → ∀ k0 k2, rd W ub.v4 = (fun _ => k0) → rd W tb.v1 = (fun _ => k2) →
      ∀ i, (rd W tb.v88 i, rd W tb.v94 i) = round 26#32 6#32 (round 15#32 17#32 (round 13#32 19#32 (inject k2 (k0 + 2#32)
        (round 24#32 8#32 (round 16#32 16#32 (round 29#32 3#32 (rd W tb.v40 i, rd W tb.v46 i))))))) := by
  unfold fn_threefry2x32.body_part1
  refine mix (by decide +kernel) (by decide +kernel) ?_
  iterate 2
    refine Line.tbinary (by decide +kernel) (by decide +kernel) (by decide +kernel) ?_
    refine mix (by decide +kernel) (by decide +kernel) ?_
  refine inj (by decide +kernel) ?_
  iterate 2
    refine Line.tbinary (by decide +kernel) (by decide +kernel) (by decide +kernel) ?_
    refine mix (by decide +kernel) (by decide +kernel) ?_
  refine Line.tbinary (by decide +kernel) (by decide +kernel) (by decide +kernel) ?_
  refine mix_last ?_
  refine mix (by decide +kernel) (by decide +kernel) ?_
  refine Line.nil (by decide +kernel) ?_
  intro W m6 b6 m5 b5 m4 b4 inj1 m3 b3 m2 b2 m1 b1 k0 k2 h0 h2 i
  rw [round_pair b6 m6, round_pair b5 m5, round_pair b4 m4, inj1 _ _ h2 h0, round_pair b3 m3, round_pair b2 m2, round_pair b1 m1]

/-- Statements 121 to 180: a round, the fourth injection, four rounds, and the fifth injection. -/
theorem part2 : Line (nD := nD) (fn_threefry2x32.body_part2 (F := Ideal) ub.v4 ub.v6 ub.v25 ub.v24 tb) 187 247
    fun W => ∀ k0 k1 k2, rd W ub.v4 = (fun _ => k0) → rd W ub.v6 = (fun _ => k1) → rd W tb.v1 = (fun _ => k2) →
      (∀ i, (rd W tb.v137 i, rd W tb.v141 i) = inject k1 (k2 + 4#32) (roundsB (inject k0 (k1 + 3#32)
        (round 6#32 26#32 (rd W tb.v88 i, rd W tb.v94 i))))) ∧ rd W tb.v142 = addi (rd W tb.v137) (rd W tb.v141) := by
  unfold fn_threefry2x32.body_part2
  refine Line.tbinary (by decide +kernel) (by decide +kernel) (by decide +kernel) ?_
  refine mix (by decide +kernel) (by decide +kernel) ?_
  refine inj (by decide +kernel) ?_
  iterate 4
    refine Line.tbinary (by decide +kernel) (by decide +kernel) (by decide +kernel) ?_
    refine mix (by decide +kernel) (by decide +kernel) ?_
  refine inj (by decide +kernel) ?_
  refine Line.last ?_
  refine Line.tbinary (by decide +kernel) (by decide +kernel) (by decide +kernel) ?_
  refine Line.nil (by decide +kernel) ?_
  intro W b6 inj2 m5 b5 m4 b4 m3 b3 m2 b2 inj1 m1 b1 k0 k1 k2 h0 h1 h2
  refine ⟨fun i => ?_, b6⟩
  rw [inj2 _ _ h1 h2, round_pair b5 m5, round_pair b4 m4, round_pair b3 m3, round_pair b2 m2, inj1 _ _ h0 h1, round_pair b1 m1]
  rfl

/-- Statements 181 to 223: four rounds and the last injection. -/
theorem part3 : Line (nD := nD) (fn_threefry2x32.body_part3 (F := Ideal) ub.v4 ub.v6 ub.v25 ub.v24 tb) 247 289
    fun W => rd W tb.v142 = addi (rd W tb.v137) (rd W tb.v141) → ∀ k0 k2, rd W ub.v4 = (fun _ => k0) → rd W tb.v1 = (fun _ => k2) →
      ∀ i, (rd W tb.v171 i, rd W tb.v175 i) = inject k2 (k0 + 5#32) (roundsA (rd W tb.v137 i, rd W tb.v141 i)) := by
  unfold fn_threefry2x32.body_part3
  refine mix (by decide +kernel) (by decide +kernel) ?_
  iterate 3
    refine Line.tbinary (by decide +kernel) (by decide +kernel) (by decide +kernel) ?_
    refine mix (by decide +kernel) (by decide +kernel) ?_
  refine inj (by decide +kernel) ?_
  refine Line.nil (by decide +kernel) ?_
  intro W inj1 m4 b4 m3 b3 m2 b2 m1 b1 k0 k2 h0 h2 i
  rw [inj1 _ _ h2 h0, round_pair b4 m4, round_pair b3 m3, round_pair b2 m2, round_pair b1 m1]
  rfl

/-- The generator call: the two words that it leaves at an element are Threefry-2x32 of the element's two counter words. -/
theorem body : Line (nD := nD) (fn_threefry2x32.body (F := Ideal) ub.v4 ub.v6 ub.v25 ub.v24 tb) 67 289
    fun W => ∀ k0 k1, rd W ub.v4 = (fun _ => k0) → rd W ub.v6 = (fun _ => k1) →
      ∀ i, (rd W tb.v171 i, rd W tb.v175 i) = threefry k0 k1 (rd W ub.v25 i) (rd W ub.v24 i) := by
  unfold fn_threefry2x32.body
  refine Line.bind part0 (Line.bind part1 (Line.bind part2 (part3.mono ?_)))
  intro W p3 p2 p1 p0 k0 k1 h0 h1 i
  obtain ⟨h2, q0, e0⟩ := p0 k0 k1 h0 h1
  obtain ⟨q2, e2⟩ := p2 k0 k1 _ h0 h1 h2
  rw [p3 e2 k0 _ h0 h2 i, q2 i, p1 e0 k0 _ h0 h2 i, q0 i]
  rfl

end Cert.RefRun

end
-- ==== Proof.PreThreefry.lean ====
/-
  The precondition's generator call: at every element its two words are Threefry-2x32 of the element's counter words.
-/
module

public import proofs.«01_k».proof.Proof.Threefry
public import Idealize.ShloMosaic.PureOps.Ideal
public import proofs.«01_k».proof.Proof.Gen.Pre_clear_winner

@[expose] public section

namespace Cert.PreRead

open Idealize.ShloMosaic Cert.Pre_clear_winner Cert.Threefry

/-- A shift by less than 32, on the host, is the machine's shift. -/
theorem host_shl {x a : BitVec 32} (ha : a.toNat < 32) : IntOp.shli .host x a = x <<< a := if_pos ha

/-- A logical right shift by less than 32, on the host, is the machine's shift. -/
theorem host_shr {x a : BitVec 32} (ha : a.toNat < 32) : IntOp.shrui .host x a = x >>> a := if_pos ha

/-- A round of the printed function, at an element. -/
theorem round_at {a b : BitVec 32} {h : S_.BroadcastsInDim S4x1024x2048x4 (![] : Fin 0 → Fin S4x1024x2048x4.rank)} {x₀ x₁ s y : IVec S4x1024x2048x4 32} (ha : a.toNat < 32) (hb : b.toNat < 32) (hs : s = addi x₀ x₁)
    (hy : y = xori s (ori (Host.shli x₁ (broadcastInDim S4x1024x2048x4 ![] h (constantI S_ 32 a))) (Host.shrui x₁ (broadcastInDim S4x1024x2048x4 ![] h (constantI S_ 32 b)))))
    (i : S4x1024x2048x4.Idx) : (s i, y i) = round a b (x₀ i, x₁ i) := by
  have e₁ : Host.shli x₁ (broadcastInDim S4x1024x2048x4 ![] h (constantI S_ 32 a)) i = x₁ i <<< a := host_shl ha
  have e₂ : Host.shrui x₁ (broadcastInDim S4x1024x2048x4 ![] h (constantI S_ 32 b)) i = x₁ i >>> b := host_shr hb
  have e₃ : y i = s i ^^^ (Host.shli x₁ (broadcastInDim S4x1024x2048x4 ![] h (constantI S_ 32 a)) i
      ||| Host.shrui x₁ (broadcastInDim S4x1024x2048x4 ![] h (constantI S_ 32 b)) i) := by rw [hy]; rfl
  rw [e₃, e₁, e₂, hs]; rfl

/-- A key injection of the printed function, at an element. -/
theorem inject_at {k l t : BitVec 32} {h : S_.BroadcastsInDim S4x1024x2048x4 (![] : Fin 0 → Fin S4x1024x2048x4.rank)} {x₀ x₁ y₀ y₁ : IVec S4x1024x2048x4 32} {kk ll : IVec S_ 32} (hk : kk = fun _ => k) (hl : ll = fun _ => l)
    (h₀ : y₀ = addi x₀ (broadcastInDim S4x1024x2048x4 ![] h kk))
    (h₁ : y₁ = addi (addi x₁ (broadcastInDim S4x1024x2048x4 ![] h ll)) (broadcastInDim S4x1024x2048x4 ![] h (constantI S_ 32 t)))
    (i : S4x1024x2048x4.Idx) : (y₀ i, y₁ i) = inject k (l + t) (x₀ i, x₁ i) := by
  rw [h₀, h₁, hk, hl]; exact congrArg (Prod.mk _) (BitVec.add_assoc _ _ _)

/-- The printed generator at an element. -/
theorem fn_threefry_at (k0 k1 : BitVec 32) (K0 K1 : IVec S_ 32) (h0 : K0 = fun _ => k0) (h1 : K1 = fun _ => k1) (hi lo : IVec S4x1024x2048x4 32) (i : S4x1024x2048x4.Idx) :
    ((fn_threefry2x32 (F := Ideal) K0 K1 hi lo).1 i, (fn_threefry2x32 (F := Ideal) K0 K1 hi lo).2 i) = threefry k0 k1 (hi i) (lo i) := by
  suffices h : ∀ r, r = fn_threefry2x32 (F := Ideal) K0 K1 hi lo → (r.1 i, r.2 i) = threefry k0 k1 (hi i) (lo i) from h _ rfl
  intro r hr
  unfold fn_threefry2x32 at hr
  extract_lets -merge _ _ v1 _ v3 _ v5 v6 _ _ _ _ _ _ _ v12 v13 _ _ _ _ _ _ _ at hr
  unfold fn_threefry2x32_part1 at hr
  extract_lets -merge v19 v20 _ _ _ _ _ _ _ v26 v27 _ _ _ _ _ _ _ v33 _ v35 _ _ _ at hr
  unfold fn_threefry2x32_part2 at hr
  extract_lets -merge _ v39 v40 _ _ _ _ _ _ _ v46 v47 _ _ _ _ _ _ _ v53 v54 _ _ _ at hr
  unfold fn_threefry2x32_part3 at hr
  extract_lets -merge _ _ _ _ v60 v61 _ _ _ _ _ _ _ v67 _ v69 _ _ _ _ v73 v74 _ _ at hr
  unfold fn_threefry2x32_part4 at hr
  extract_lets -merge _ _ _ _ _ v80 v81 _ _ _ _ _ _ _ v87 v88 _ _ _ _ _ _ _ v94 at hr
  unfold fn_threefry2x32_part5 at hr
  extract_lets -merge v95 _ _ _ _ _ _ _ v101 _ v103 _ _ _ _ v107 v108 _ _ _ _ _ _ _ at hr
  unfold fn_threefry2x32_part6 at hr
  extract_lets -merge v114 v115 _ _ _ _ _ _ _ v121 v122 _ _ _ _ _ _ _ v128 v129 _ _ _ _ at hr
  unfold fn_threefry2x32_part7 at hr
  extract_lets -merge _ _ _ v135 _ v137 _ _ _ _ v141 v142 _ _ _ _ _ _ _ v148 v149 _ _ _ at hr
  unfold fn_threefry2x32_part8 at hr
  extract_lets -merge _ _ _ _ v155 v156 _ _ _ _ _ _ _ v162 v163 _ _ _ _ _ _ _ v169 _ at hr
  unfold fn_threefry2x32_part9 at hr
  extract_lets -merge v171 _ _ _ _ v175 at hr
  have h2 : v1 = fun _ => key2 k0 k1 := by subst h0 h1; rfl
  have i0 : (v3 i, v5 i) = inject k0 k1 (hi i, lo i) := by subst h0 h1; rfl
  rw [hr]
  show (v171 i, v175 i) = _
  rw [inject_at (y₀ := v171) (y₁ := v175) h2 h0 rfl rfl i,
    round_at (s := v163) (y := v169) (by decide) (by decide) rfl rfl i,
    round_at (s := v156) (y := v162) (by decide) (by decide) rfl rfl i,
    round_at (s := v149) (y := v155) (by decide) (by decide) rfl rfl i,
    round_at (s := v142) (y := v148) (by decide) (by decide) rfl rfl i,
    inject_at (y₀ := v137) (y₁ := v141) h1 h2 rfl rfl i,
    round_at (s := v129) (y := v135) (by decide) (by decide) rfl rfl i,
    round_at (s := v122) (y := v128) (by decide) (by decide) rfl rfl i,
    round_at (s := v115) (y := v121) (by decide) (by decide) rfl rfl i,
    round_at (s := v108) (y := v114) (by decide) (by decide) rfl rfl i,
    inject_at (y₀ := v103) (y₁ := v107) h0 h1 rfl rfl i,
    round_at (s := v95) (y := v101) (by decide) (by decide) rfl rfl i,
    round_at (s := v88) (y := v94) (by decide) (by decide) rfl rfl i,
    round_at (s := v81) (y := v87) (by decide) (by decide) rfl rfl i,
    round_at (s := v74) (y := v80) (by decide) (by decide) rfl rfl i,
    inject_at (y₀ := v69) (y₁ := v73) h2 h0 rfl rfl i,
    round_at (s := v61) (y := v67) (by decide) (by decide) rfl rfl i,
    round_at (s := v54) (y := v60) (by decide) (by decide) rfl rfl i,
    round_at (s := v47) (y := v53) (by decide) (by decide) rfl rfl i,
    round_at (s := v40) (y := v46) (by decide) (by decide) rfl rfl i,
    inject_at (y₀ := v35) (y₁ := v39) h1 h2 rfl rfl i,
    round_at (s := v27) (y := v33) (by decide) (by decide) rfl rfl i,
    round_at (s := v20) (y := v26) (by decide) (by decide) rfl rfl i,
    round_at (s := v13) (y := v19) (by decide) (by decide) rfl rfl i,
    round_at (s := v6) (y := v12) (by decide) (by decide) rfl rfl i,
    i0]
  rfl

end Cert.PreRead

end
-- ==== Proof.RefRun.lean ====
/-
  The reference's run: what its buffers hold at the end, each from the ones that it reads.
-/
module

public import proofs.«01_k».proof.Proof.RefThreefry
public import proofs.«01_k».proof.Proof.PreThreefry

@[expose] public section

namespace Cert.RefRun

open Idealize.ShloMosaic Idealize.SL.Sem Cert.ReferenceIdeal Cert.ReferenceIdeal.Facts₀ Cert.Line Cert.Threefry

/-- The generator's words on the reference's line are those of the precondition's function. -/
theorem words (W : Valuation τ sig (Elt Ideal))
    (h : ∀ k0 k1, rd W ub.v4 = (fun _ => k0) → rd W ub.v6 = (fun _ => k1) →
      ∀ i, (rd W tb.v171 i, rd W tb.v175 i) = threefry k0 k1 (rd W ub.v25 i) (rd W ub.v24 i)) :
    rd W tb.v171 = (Cert.Pre_clear_winner.fn_threefry2x32 (F := Ideal) (rd W ub.v4) (rd W ub.v6) (rd W ub.v25) (rd W ub.v24)).1
      ∧ rd W tb.v175 = (Cert.Pre_clear_winner.fn_threefry2x32 (F := Ideal) (rd W ub.v4) (rd W ub.v6) (rd W ub.v25) (rd W ub.v24)).2 := by
  have scalar : ∀ x : IVec S_ 32, x = fun _ => x (fun a => a.elim0) := fun x => funext fun i => congrArg x (funext fun a => a.elim0)
  have key := fun i => (h _ _ (scalar _) (scalar _) i).trans
    (Cert.PreRead.fn_threefry_at _ _ _ _ (scalar (rd W ub.v4)) (scalar (rd W ub.v6)) _ _ i).symm
  exact ⟨funext fun i => congrArg Prod.fst (key i), funext fun i => congrArg Prod.snd (key i)⟩

/-- The uniform draws: the reference's line leaves what the precondition's function gives at the same key and bounds. -/
theorem uniform {key : StableHlo.TRef sig ⟨S2, .i32⟩} {one tiny : StableHlo.TRef sig ⟨S_, .f32⟩} (hk : num key.ref < 36) (h1 : num one.ref < 36)
    (ht : num tiny.ref < 36) : Line (nD := nD) (fn_uniform.body (F := Ideal) key one tiny ub) 36 307
    fun W => rd W ub.v41 = Cert.Pre_clear_winner.fn_uniform (F := Ideal) (rd W key) (rd W one) (rd W tiny) := by
  unfold fn_uniform.body
  have k0 : 36 ≤ num ub.v0.ref := by decide +kernel
  have k1 : 36 ≤ num ub.v1.ref := by decide +kernel
  have k3 : 36 ≤ num ub.v3.ref := by decide +kernel
  have k5 : 36 ≤ num ub.v5.ref := by decide +kernel
  refine Line.tunary k0 (h1.trans_le k0) ?_
  refine Line.tunary (by decide +kernel) (ht.trans_le k1) ?_
  refine Line.tunary (by decide +kernel) (by decide +kernel) ?_
  refine Line.tunary (by decide +kernel) (hk.trans_le k3) ?_
  refine Line.treshape (by decide +kernel) (by decide +kernel) ?_
  refine Line.tunary (by decide +kernel) (hk.trans_le k5) ?_
  refine Line.treshape (by decide +kernel) (by decide +kernel) ?_
  iterate 5 refine Line.tnullary (by decide +kernel) ?_
  refine Line.tunary (by decide +kernel) (by decide +kernel) ?_
  refine Line.tbinary (by decide +kernel) (by decide +kernel) (by decide +kernel) ?_
  refine Line.tnullary (by decide +kernel) ?_
  refine Line.tunary (by decide +kernel) (by decide +kernel) ?_
  refine Line.tbinary (by decide +kernel) (by decide +kernel) (by decide +kernel) ?_
  refine Line.tnullary (by decide +kernel) ?_
  refine Line.tunary (by decide +kernel) (by decide +kernel) ?_
  refine Line.tbinary (by decide +kernel) (by decide +kernel) (by decide +kernel) ?_
  refine Line.tnullary (by decide +kernel) ?_
  refine Line.tunary (by decide +kernel) (by decide +kernel) ?_
  iterate 4 refine Line.tbinary (by decide +kernel) (by decide +kernel) (by decide +kernel) ?_
  refine Line.tnullary (by decide +kernel) ?_
  refine Line.tunary (by decide +kernel) (by decide +kernel) ?_
  refine Line.tbinary (by decide +kernel) (by decide +kernel) (by decide +kernel) ?_
  iterate 2 refine Line.tunary (by decide +kernel) (by decide +kernel) ?_
  refine Line.bind body ?_
  refine Line.tbinary (by decide +kernel) (by decide +kernel) (by decide +kernel) ?_
  refine Line.tnullary (by decide +kernel) ?_
  refine Line.tunary (by decide +kernel) (by decide +kernel) ?_
  refine Line.tbinary (by decide +kernel) (by decide +kernel) (by decide +kernel) ?_
  refine Line.tnullary (by decide +kernel) ?_
  refine Line.tunary (by decide +kernel) (by decide +kernel) ?_
  refine Line.tbinary (by decide +kernel) (by decide +kernel) (by decide +kernel) ?_
  refine Line.tunary (by decide +kernel) (by decide +kernel) ?_
  refine Line.tnullary (by decide +kernel) ?_
  refine Line.tunary (by decide +kernel) (by decide +kernel) ?_
  iterate 2 refine Line.tbinary (by decide +kernel) (by decide +kernel) (by decide +kernel) ?_
  refine Line.tunary (by decide +kernel) (by decide +kernel) ?_
  refine Line.tbinary (by decide +kernel) (by decide +kernel) (by decide +kernel) ?_
  refine Line.tunary (by decide +kernel) (by decide +kernel) ?_
  refine Line.tbinary (by decide +kernel) (by decide +kernel) (by decide +kernel) ?_
  refine Line.tunary (by decide +kernel) (by decide +kernel) ?_
  refine Line.tbinary (by decide +kernel) (by decide +kernel) (by decide +kernel) ?_
  refine Line.nil (by decide +kernel) ?_
  intro W e_v41 e_v40 e_v39 e_v38 e_v37 e_v36 e_v35 e_v34 e_v33 e_cst e_v32 e_v31 e_v30 e_c5 e_v29 e_v28 e_c4 e_v27 hw
    e_v25 e_v24 e_v23 e_v22 e_c3 e_v21 e_v20 e_v19 e_v18 e_v17 e_c2 e_v16 e_v15 e_c1 e_v14 e_v13 e_c0 e_v12 e_v11 e_c e_v10 e_v9 e_v8 e_v7 e_v6 e_v5 e_v4 e_v3 e_v2 e_v1 e_v0
  obtain ⟨w1, w2⟩ := words W hw
  replace e_v27 : rd W ub.v27 = xori (rd W tb.v171) (rd W tb.v175) := e_v27
  rw [e_v41, e_v40, e_v39, e_v38, e_v37, e_v36, e_v35, e_v34, e_v33, e_cst, e_v32, e_v31, e_v30, e_c5, e_v29, e_v28, e_c4, e_v27, w1, w2,
    e_v25, e_v24, e_v23, e_v22, e_c3, e_v21, e_v20, e_v19, e_v18, e_v17, e_c2, e_v16, e_v15, e_c1, e_v14, e_v13, e_c0, e_v12, e_v11, e_c, e_v10, e_v9, e_v8, e_v7, e_v6, e_v5, e_v4, e_v3, e_v2, e_v1, e_v0]
  rfl

/-- The Gumbel noise: the reference's line leaves what the precondition's function gives at the same key. -/
theorem gumbel {key : StableHlo.TRef sig ⟨S2, .i32⟩} (hk : num key.ref < 34) : Line (nD := nD) (fn_gumbel.body (F := Ideal) key main_call0) 34 311
    fun W => rd W main_call0.v4 = Cert.Pre_clear_winner.fn_gumbel (F := Ideal) (rd W key) := by
  unfold fn_gumbel.body
  iterate 2 refine Line.tnullary (by decide +kernel) ?_
  refine Line.bind (uniform (by omega) (by decide +kernel) (by decide +kernel)) ?_
  iterate 4 refine Line.tunary (by decide +kernel) (by decide +kernel) ?_
  refine Line.nil (by decide +kernel) ?_
  intro W e4 e3 e2 e1 eu ec0 ec
  have eu' : rd W main_call0.call0.v41 = Cert.Pre_clear_winner.fn_uniform (F := Ideal) (rd W key) (rd W main_call0.cst) (rd W main_call0.cst_0) := eu
  rw [e4, e3, e2, e1, eu', ec0, ec]
  rfl

/-- The place of the largest: the reference's line leaves what the precondition's function gives. -/
theorem argmax {z : StableHlo.TRef sig ⟨S4x1024x2048x4, .f32⟩} (hz : num z.ref < 314) :
    Line (nD := nD) (fn_argmax.body (F := Ideal) z main_call1) 314 319
    fun W => rd W main_call1.v1_1 = Cert.Pre_clear_winner.fn_argmax (F := Ideal) (rd W z) := by
  unfold fn_argmax.body
  iterate 3 refine Line.tnullary (by decide +kernel) ?_
  refine Line.tquaternary (by decide +kernel) ⟨hz.trans (by decide +kernel), by decide +kernel, by decide +kernel, by decide +kernel⟩ ?_
  refine Line.tquaternary (by decide +kernel) ⟨hz.trans (by decide +kernel), by decide +kernel, by decide +kernel, by decide +kernel⟩ ?_
  refine Line.nil (by decide +kernel) ?_
  intro W e5 e4 e3 e2 e1
  rw [e5, e3, e2, e1]
  rfl

/-- The one-hot code of a place. -/
noncomputable def oneHot (w : IVec S4x1024x2048 32) : FVec Ideal S4x1024x2048x4 .f32 :=
  uitofp .f32 (cmpi .eq
    (broadcastInDim S4x1024x2048x4 ![0, 1, 2, 3] bcast_S4x1024x2048x1_S4x1024x2048x4_0_1_2_3
      (broadcastInDim S4x1024x2048x1 ![0, 1, 2] bcast_S4x1024x2048_S4x1024x2048x1_0_1_2 w))
    (broadcastInDim S4x1024x2048x4 ![0, 1, 2, 3] bcast_S1x1x1x4_S4x1024x2048x4_0_1_2_3 (iotaInDim S1x1x1x4 32 3)))

/-- The one-hot call leaves the one-hot code of its argument. -/
theorem one_hot {w : StableHlo.TRef sig ⟨S4x1024x2048, .i32⟩} (hw : num w.ref < 319) :
    Line (nD := nD) (fn_one_hot.body (F := Ideal) w main_call2) 319 325 fun W => rd W main_call2.v5 = oneHot (rd W w) := by
  unfold fn_one_hot.body
  refine Line.tunary (by decide +kernel) (hw.trans_le (by decide +kernel)) ?_
  refine Line.tnullary (by decide +kernel) ?_
  iterate 2 refine Line.tunary (by decide +kernel) (by decide +kernel) ?_
  refine Line.tbinary (by decide +kernel) (by decide +kernel) (by decide +kernel) ?_
  refine Line.tunary (by decide +kernel) (by decide +kernel) ?_
  refine Line.nil (by decide +kernel) ?_
  intro W e5 e4 e3 e2 e1 e0
  rw [e5, e4, e3, e2, e1, e0]
  rfl

/-- The key `[0, 42]` as the programs make it. -/
def key : IVec S2 32 :=
  concatenate S2 0 [⟨S1, broadcastInDim S1 ![] bcast_S_S1 (id (Host.shrui (constantI S_ 32 42#32) (constantI S_ 32 32#32)))⟩,
    ⟨S1, broadcastInDim S1 ![] bcast_S_S1 (id (andi (constantI S_ 32 42#32) (constantI S_ 32 4294967295#32)))⟩] concatenates_S1_S1_S2_d0

/-- The logits over the temperature, which is one. -/
noncomputable def scaled (θ : FVec Ideal S1024x4x2048 .f32) : FVec Ideal S1024x4x2048 .f32 :=
  Host.divf θ (broadcastInDim S1024x4x2048 ![] bcast_S_S1024x4x2048 (constant S_ .f32 0x3F800000#32))

/-- The exponentials of the logits less their largest. -/
noncomputable def powers (x : FVec Ideal S1024x4x2048 .f32) : FVec Ideal S1024x4x2048 .f32 :=
  Host.exp (subf x (broadcastInDim S1024x4x2048 ![0, 1, 2] bcast_S1024x1x2048_S1024x4x2048_0_1_2
    (broadcastInDim S1024x1x2048 ![0, 2] bcast_S1024x2048_S1024x1x2048_0_2
      (maximumf (broadcastInDim S1024x2048 ![] bcast_S_S1024x2048 (constant S_ .f32 0xFF800000#32))
        (Host.reduce FloatOps.maximumf x (constant S_ .f32 0xFF800000#32) reducesTo_S1024x4x2048_S1024x2048_d1 h_S_)))))

/-- The exponentials over their sum. -/
noncomputable def shares (e : FVec Ideal S1024x4x2048 .f32) : FVec Ideal S1024x4x2048 .f32 :=
  Host.divf e (broadcastInDim S1024x4x2048 ![0, 1, 2] bcast_S1024x1x2048_S1024x4x2048_0_1_2
    (broadcastInDim S1024x1x2048 ![0, 2] bcast_S1024x2048_S1024x1x2048_0_2
      (Host.reduceAdd e (constant S_ .f32 0x00000000#32) reducesTo_S1024x4x2048_S1024x2048_d1 h_S_)))

/-- The noisy logits. -/
noncomputable def noisy (x : FVec Ideal S1024x4x2048 .f32) : FVec Ideal S4x1024x2048x4 .f32 :=
  addf (Cert.Pre_clear_winner.fn_gumbel (F := Ideal) key)
    (broadcastInDim S4x1024x2048x4 ![0, 1, 2, 3] bcast_S1x1024x2048x4_S4x1024x2048x4_0_1_2_3
      (broadcastInDim S1x1024x2048x4 ![1, 2, 3] bcast_S1024x2048x4_S1x1024x2048x4_1_2_3
        (transpose S1024x2048x4 [0, 2, 1] x transposes_S1024x4x2048_S1024x2048x4_0_2_1)))

/-- The same table at every sample. -/
noncomputable def spread (x : FVec Ideal S1024x4x2048 .f32) : FVec Ideal S4x1024x4x2048 .f32 :=
  broadcastInDim S4x1024x4x2048 ![0, 1, 2, 3] bcast_S1x1024x4x2048_S4x1024x4x2048_0_1_2_3
    (broadcastInDim S1x1024x4x2048 ![1, 2, 3] bcast_S1024x4x2048_S1x1024x4x2048_1_2_3 x)

/-- The straight-through sample: the one-hot code less the softmax plus the softmax. -/
noncomputable def straight (θ : FVec Ideal S1024x4x2048 .f32) : FVec Ideal S4x1024x4x2048 .f32 :=
  addf (subf (transpose S4x1024x4x2048 [0, 1, 3, 2] (oneHot (Cert.Pre_clear_winner.fn_argmax (F := Ideal) (noisy (scaled θ))))
      transposes_S4x1024x2048x4_S4x1024x4x2048_0_1_3_2) (spread (shares (powers (scaled θ)))))
    (spread (shares (powers (scaled θ))))

/-- The reference's result from its three arguments. -/
noncomputable def result (θ : FVec Ideal S1024x4x2048 .f32) (up down : FVec Ideal S4x1024x4x200 .f32) : FVec Ideal S4096x4x2448 .f32 :=
  shapeCast S4096x4x2448 (concatenate S4x1024x4x2448 3 [⟨S4x1024x4x200, up⟩, ⟨S4x1024x4x2048, straight θ⟩, ⟨S4x1024x4x200, down⟩]
    concatenates_S4x1024x4x200_S4x1024x4x2048_S4x1024x4x200_S4x1024x4x2448_d3) shapeCasts_S4x1024x4x2448_S4096x4x2448

/-- The whole line: the reference's last buffer holds its result. -/
theorem whole (d : Dev nD) : Line (nD := nD) (main (F := Ideal) d) 3 334 fun W =>
    W (Proc.devRef .tc main_v37) = result (W (Proc.devRef .tc main_arg0)) (W (Proc.devRef .tc main_arg1)) (W (Proc.devRef .tc main_arg2)) := by
  unfold main
  refine Line.nullary (by decide +kernel) ?_
  refine Line.unary (by decide +kernel) (by decide +kernel) ?_
  refine Line.binary (by decide +kernel) (by decide +kernel) (by decide +kernel) ?_
  refine Line.nullary (by decide +kernel) ?_
  refine Line.binary (by decide +kernel) (by decide +kernel) (by decide +kernel) ?_
  refine Line.nullary (by decide +kernel) ?_
  refine Line.unary (by decide +kernel) (by decide +kernel) ?_
  refine Line.binary (by decide +kernel) (by decide +kernel) (by decide +kernel) ?_
  iterate 2 refine Line.unary (by decide +kernel) (by decide +kernel) ?_
  refine Line.binary (by decide +kernel) (by decide +kernel) (by decide +kernel) ?_
  refine Line.unary (by decide +kernel) (by decide +kernel) ?_
  refine Line.nullary (by decide +kernel) ?_
  refine Line.binary (by decide +kernel) (by decide +kernel) (by decide +kernel) ?_
  iterate 2 refine Line.unary (by decide +kernel) (by decide +kernel) ?_
  refine Line.binary (by decide +kernel) (by decide +kernel) (by decide +kernel) ?_
  refine Line.nullary (by decide +kernel) ?_
  refine Line.unary (by decide +kernel) (by decide +kernel) ?_
  refine Line.binary (by decide +kernel) (by decide +kernel) (by decide +kernel) ?_
  refine Line.unary (by decide +kernel) (by decide +kernel) ?_
  iterate 2 refine Line.nullary (by decide +kernel) ?_
  refine Line.binary (by decide +kernel) (by decide +kernel) (by decide +kernel) ?_
  iterate 2 refine Line.unary (by decide +kernel) (by decide +kernel) ?_
  refine Line.nullary (by decide +kernel) ?_
  refine Line.binary (by decide +kernel) (by decide +kernel) (by decide +kernel) ?_
  iterate 2 refine Line.unary (by decide +kernel) (by decide +kernel) ?_
  refine Line.binary (by decide +kernel) (by decide +kernel) (by decide +kernel) ?_
  refine Line.bind (gumbel (by decide +kernel)) ?_
  iterate 2 refine Line.unary (by decide +kernel) (by decide +kernel) ?_
  refine Line.binary (by decide +kernel) (by decide +kernel) (by decide +kernel) ?_
  refine Line.bind (argmax (by decide +kernel)) ?_
  refine Line.bind (one_hot (by decide +kernel)) ?_
  iterate 3 refine Line.unary (by decide +kernel) (by decide +kernel) ?_
  refine Line.binary (by decide +kernel) (by decide +kernel) (by decide +kernel) ?_
  iterate 2 refine Line.unary (by decide +kernel) (by decide +kernel) ?_
  refine Line.binary (by decide +kernel) (by decide +kernel) (by decide +kernel) ?_
  refine Line.nary (by decide +kernel) (by decide +kernel) ?_
  refine Line.reshape (by decide +kernel) (by decide +kernel) ?_
  refine Line.nil (by decide +kernel) ?_
  intro W e37 e36 e35 e34 e33 e32 e31 e30 e29 e28 e27 e26 e25 e24 e23 e22 e21 e20 e19 ec5 e18 e17 e16 ec4 ec e15 e14 e13 ec3
    e12 e11 e10 e9 ec2 e8 e7 e6 e5 e4 e3 ec1 e2 ec0 e1 e0 ecst
  replace e28 : W (Proc.devRef .tc main_v28) = oneHot (W (Proc.devRef .tc main_v27)) := e28
  replace e27 : W (Proc.devRef .tc main_v27) = Cert.Pre_clear_winner.fn_argmax (F := Ideal) (W (Proc.devRef .tc main_v26)) := e27
  replace e23 : W (Proc.devRef .tc main_v23) = Cert.Pre_clear_winner.fn_gumbel (F := Ideal) (W (Proc.devRef .tc main_v22)) := e23
  have f22 : W (Proc.devRef .tc main_v22) = key := by rw [e22, e21, e20, e19, ec5, e18, e17, e16, ec4, ec]; rfl
  have f14 : W (Proc.devRef .tc main_v14) = scaled (W (Proc.devRef .tc main_arg0)) := by rw [e14, e13, ec3]; rfl
  have f1 : W (Proc.devRef .tc main_v1) = scaled (W (Proc.devRef .tc main_arg0)) := by rw [e1, e0, ecst]; rfl
  have f8 : W (Proc.devRef .tc main_v8) = powers (scaled (W (Proc.devRef .tc main_arg0))) := by
    rw [e8, e7, e6, e5, e4, e3, ec1, e2, ec0, f1]
    generalize scaled (W (Proc.devRef .tc main_arg0)) = x
    unfold powers
    with_reducible rfl
  have f12 : W (Proc.devRef .tc main_v12) = shares (powers (scaled (W (Proc.devRef .tc main_arg0)))) := by
    rw [e12, e11, e10, e9, ec2, f8]
    generalize powers (scaled (W (Proc.devRef .tc main_arg0))) = e
    unfold shares
    with_reducible rfl
  have f26 : W (Proc.devRef .tc main_v26) = noisy (scaled (W (Proc.devRef .tc main_arg0))) := by
    rw [e26, e25, e24, e23, f22, e15, f14]; rfl
  have f35 : W (Proc.devRef .tc main_v35) = straight (W (Proc.devRef .tc main_arg0)) := by
    rw [e35, e34, e33, e32, e31, e30, e29, e28, e27, f26, f12]; rfl
  rw [e37, e36]
  unfold result
  rw [← f35]
  rfl

end Cert.RefRun

end
-- ==== Proof.Model.lean ====
/-
  What both programs compute, element by element, on extended reals: the random word of a counter, the uniform number it
  stands for and the score of one category.
-/
module

public import proofs.«01_k».proof.Proof.Threefry
public import Idealize.ShloMosaic.PureOps.Ideal

@[expose] public section

noncomputable section

namespace Cert.Model

open Idealize.ShloMosaic Cert.Threefry

/-- The uniform number in [0, 1) that a random word stands for: its 23 leading bits are the fraction of a float in [1, 2),
    less one. -/
def unif (w : BitVec 32) : EReal := Ideal.ofBits .f32 ((w >>> 9#32) ||| 1065353216#32) - 1

/-- The random word of category `v` at row `(s, n)` and place `l`. -/
def word (s : Fin 4) (n : Fin 1024) (l : Fin 2048) (v : Fin 4) : BitVec 32 :=
  draw (BitVec.ofNat 32 (8388608 * s.val + 8192 * n.val + 4 * l.val + v.val))

/-- The kernel's score of a category of logit `x` at the word `w`. -/
def score (x : EReal) (w : BitVec 32) : EReal := x - Ideal.log (0 - Ideal.log (unif w))

/-- The greatest of four numbers, as the kernel takes it. -/
def top (g : Fin 4 → EReal) : EReal := max (max (g 0) (g 1)) (max (g 2) (g 3))

end Cert.Model

end

end
-- ==== Proof.PreRead.lean ====
/-
  The noise of the reference and of the precondition, element by element.
-/
module

public import proofs.«01_k».proof.Proof.PreThreefry
public import proofs.«01_k».proof.Proof.Model
public import Idealize.ShloMosaic.PureOps.Ideal.Laws
public import Idealize.ShloMosaic.Lib.IdealHost
public import Idealize.ShloMosaic.Lib.Pointwise

@[expose] public section

noncomputable section

namespace Cert.PreRead

open Idealize.ShloMosaic Cert.Pre_clear_winner Cert.Threefry Cert.Model

/-- The counters of all elements, in 64 bits. -/
def counters : IVec S4x1024x2048x4 64 :=
  addi (addi (addi
    (muli (broadcastInDim S4x1024x2048x4 ![] Facts.bcast_S_S4x1024x2048x4 (constantI S_ 64 8388608#64)) (iotaInDim S4x1024x2048x4 64 0))
    (muli (broadcastInDim S4x1024x2048x4 ![] Facts.bcast_S_S4x1024x2048x4 (constantI S_ 64 8192#64)) (iotaInDim S4x1024x2048x4 64 1)))
    (muli (broadcastInDim S4x1024x2048x4 ![] Facts.bcast_S_S4x1024x2048x4 (constantI S_ 64 4#64)) (iotaInDim S4x1024x2048x4 64 2)))
    (muli (broadcastInDim S4x1024x2048x4 ![] Facts.bcast_S_S4x1024x2048x4 (constantI S_ 64 1#64)) (iotaInDim S4x1024x2048x4 64 3))

/-- The counter of an element. -/
theorem counters_at (s : Fin 4) (n : Fin 1024) (l : Fin 2048) (v : Fin 4) :
    counters (ix4 s n l v) = BitVec.ofNat 64 (8388608 * s.val + 8192 * n.val + 4 * l.val + v.val) := by
  unfold counters
  pointwise
  show 8388608#64 * BitVec.ofNat 64 s.val + 8192#64 * BitVec.ofNat 64 n.val + 4#64 * BitVec.ofNat 64 l.val + 1#64 * BitVec.ofNat 64 v.val = _
  apply BitVec.eq_of_toNat_eq
  simp only [BitVec.toNat_add, BitVec.toNat_mul, BitVec.toNat_ofNat]
  omega

/-- The upper half of a counter is zero. -/
theorem upper_at (s : Fin 4) (n : Fin 1024) (l : Fin 2048) (v : Fin 4) :
    trunci 32 (Host.shrui counters (broadcastInDim S4x1024x2048x4 ![] Facts.bcast_S_S4x1024x2048x4 (constantI S_ 64 32#64))) Facts.natLt_32_64 (ix4 s n l v) = 0#32 := by
  pointwise
  have h : IntOp.shrui .host (counters (ix4 s n l v)) 32#64 = counters (ix4 s n l v) >>> 32#64 := if_pos (by decide)
  show (IntOp.shrui .host (counters (ix4 s n l v)) 32#64).setWidth 32 = 0#32
  rw [h, counters_at]
  apply BitVec.eq_of_toNat_eq
  simp only [BitVec.toNat_setWidth, BitVec.toNat_ushiftRight, BitVec.toNat_ofNat, BitVec.ushiftRight_eq', Nat.shiftRight_eq_div_pow, show 32 % 2 ^ 64 = 32 by norm_num]
  have hs := s.isLt
  have hn := n.isLt
  have hl := l.isLt
  have hv := v.isLt
  omega

/-- The lower half of a counter. -/
theorem lower_at (s : Fin 4) (n : Fin 1024) (l : Fin 2048) (v : Fin 4) :
    trunci 32 counters Facts.natLt_32_64 (ix4 s n l v) = BitVec.ofNat 32 (8388608 * s.val + 8192 * n.val + 4 * l.val + v.val) := by
  pointwise
  show (counters (ix4 s n l v)).setWidth 32 = _
  rw [counters_at]
  apply BitVec.eq_of_toNat_eq
  simp only [BitVec.toNat_setWidth, BitVec.toNat_ofNat]
  omega

/-- The two words of a key. -/
structure IsKey (K : IVec S2 32) : Prop where
  /-- The first is zero. -/
  zero : shapeCast S_ (extractStridedSlice S1 ![0] K Facts.slices_S2_S1_0) Facts.shapeCasts_S1_S_ = fun _ => 0#32
  /-- The second is 42. -/
  seed : shapeCast S_ (extractStridedSlice S1 ![1] K Facts.slices_S2_S1_1) Facts.shapeCasts_S1_S_ = fun _ => 42#32

/-- The random bits of all elements at a key. -/
def bits (K : IVec S2 32) : IVec S4x1024x2048x4 32 :=
  xori (fn_threefry2x32 (F := Ideal) (shapeCast S_ (extractStridedSlice S1 ![0] K Facts.slices_S2_S1_0) Facts.shapeCasts_S1_S_)
      (shapeCast S_ (extractStridedSlice S1 ![1] K Facts.slices_S2_S1_1) Facts.shapeCasts_S1_S_)
      (trunci 32 (Host.shrui counters (broadcastInDim S4x1024x2048x4 ![] Facts.bcast_S_S4x1024x2048x4 (constantI S_ 64 32#64))) Facts.natLt_32_64)
      (trunci 32 counters Facts.natLt_32_64)).1
    (fn_threefry2x32 (F := Ideal) (shapeCast S_ (extractStridedSlice S1 ![0] K Facts.slices_S2_S1_0) Facts.shapeCasts_S1_S_)
      (shapeCast S_ (extractStridedSlice S1 ![1] K Facts.slices_S2_S1_1) Facts.shapeCasts_S1_S_)
      (trunci 32 (Host.shrui counters (broadcastInDim S4x1024x2048x4 ![] Facts.bcast_S_S4x1024x2048x4 (constantI S_ 64 32#64))) Facts.natLt_32_64)
      (trunci 32 counters Facts.natLt_32_64)).2

/-- The random bits of an element. -/
theorem bits_at {K : IVec S2 32} (hK : IsKey K) (s : Fin 4) (n : Fin 1024) (l : Fin 2048) (v : Fin 4) : bits K (ix4 s n l v) = word s n l v := by
  have h := fn_threefry_at _ _ _ _ hK.zero hK.seed
    (trunci 32 (Host.shrui counters (broadcastInDim S4x1024x2048x4 ![] Facts.bcast_S_S4x1024x2048x4 (constantI S_ 64 32#64))) Facts.natLt_32_64)
    (trunci 32 counters Facts.natLt_32_64) (ix4 s n l v)
  rw [upper_at, lower_at] at h
  exact congrArg₂ (· ^^^ ·) (congrArg Prod.fst h) (congrArg Prod.snd h)

/-- A uniform draw as the reference takes it, within the bounds `tiny` and one. -/
theorem fn_uniform_at {K : IVec S2 32} (hK : IsKey K) (one tiny : FVec Ideal S_ .f32) (o t : EReal)
    (ho : one = fun _ => o) (ht : tiny = fun _ => t) (s : Fin 4) (n : Fin 1024) (l : Fin 2048) (v : Fin 4) :
    fn_uniform (F := Ideal) K one tiny (ix4 s n l v) = max t (unif (word s n l v) * (o - t) + t) := by
  have hu : fn_uniform (F := Ideal) K one tiny = maximumf (broadcastInDim S4x1024x2048x4 ![0, 1, 2, 3] Facts.bcast_S1x1x1x1_S4x1024x2048x4_0_1_2_3 (broadcastInDim S1x1x1x1 ![] Facts.bcast_S_S1x1x1x1 tiny))
      (addf (mulf (subf (bitcastToFloat .f32 (ori (Host.shrui (bits K)
          (broadcastInDim S4x1024x2048x4 ![] Facts.bcast_S_S4x1024x2048x4 (constantI S_ 32 9#32)))
          (broadcastInDim S4x1024x2048x4 ![] Facts.bcast_S_S4x1024x2048x4 (constantI S_ 32 1065353216#32))))
          (broadcastInDim S4x1024x2048x4 ![] Facts.bcast_S_S4x1024x2048x4 (constant S_ .f32 0x3F800000#32)))
        (broadcastInDim S4x1024x2048x4 ![0, 1, 2, 3] Facts.bcast_S1x1x1x1_S4x1024x2048x4_0_1_2_3
          (subf (broadcastInDim S1x1x1x1 ![] Facts.bcast_S_S1x1x1x1 (id one)) (broadcastInDim S1x1x1x1 ![] Facts.bcast_S_S1x1x1x1 tiny))))
        (broadcastInDim S4x1024x2048x4 ![0, 1, 2, 3] Facts.bcast_S1x1x1x1_S4x1024x2048x4_0_1_2_3 (broadcastInDim S1x1x1x1 ![] Facts.bcast_S_S1x1x1x1 tiny))) := rfl
  rw [hu]
  subst ho ht
  pointwise
  rw [bits_at hK]
  have hs : IntOp.shrui .host (word s n l v) 9#32 = word s n l v >>> 9#32 := host_shr (by decide)
  rw [hs]
  rfl

/-- The Gumbel noise of a word, as the reference takes it. -/
def noise (w : BitVec 32) : EReal :=
  -Ideal.log (-Ideal.log (max (Ideal.ofBits .f32 0x00800000#32)
    (unif w * (1 - Ideal.ofBits .f32 0x00800000#32) + Ideal.ofBits .f32 0x00800000#32)))

/-- The Gumbel noise of an element. -/
theorem fn_gumbel_at {K : IVec S2 32} (hK : IsKey K) (s : Fin 4) (n : Fin 1024) (l : Fin 2048) (v : Fin 4) :
    fn_gumbel (F := Ideal) K (ix4 s n l v) = noise (word s n l v) := by
  have h := fn_uniform_at hK (constant S_ .f32 0x3F800000#32) (constant S_ .f32 0x00800000#32) 1 (Ideal.ofBits .f32 0x00800000#32)
    (funext fun _ => Ideal.ofBits_one_f32) rfl s n l v
  unfold fn_gumbel
  pointwise
  rw [h]
  rfl

end Cert.PreRead

end

end
-- ==== Proof.RefRead.lean ====
/-
  The reference's result and the precondition, element by element.
-/
module

public import proofs.«01_k».proof.Proof.RefRun
public import proofs.«01_k».proof.Proof.PreRead

@[expose] public section

noncomputable section

namespace Cert.RefRead

open Idealize.ShloMosaic Cert.ReferenceIdeal Cert.RefRun Cert.Threefry Cert.Model Cert.PreRead

/-- The key is `[0, 42]`. -/
theorem key_is : IsKey key := by
  constructor
  · funext i
    unfold key
    pointwise
    rfl
  · funext i
    unfold key
    pointwise
    rfl

/-- Dividing by the temperature changes nothing. -/
theorem scaled_eq (θ : FVec Ideal S1024x4x2048 .f32) : scaled θ = θ := by
  funext i
  unfold scaled
  pointwise
  rw [Ideal.div, if_neg one_ne_zero, inv_one, mul_one]

/-- A sum with a logit spread over the samples, for any noise. -/
theorem noisy_of (g : FVec Ideal S4x1024x2048x4 .f32) (x : FVec Ideal S1024x4x2048 .f32) (s : Fin 4) (n : Fin 1024) (l : Fin 2048) (v : Fin 4) :
    addf g (broadcastInDim S4x1024x2048x4 ![0, 1, 2, 3] Facts₀.bcast_S1x1024x2048x4_S4x1024x2048x4_0_1_2_3
      (broadcastInDim S1x1024x2048x4 ![1, 2, 3] Facts₀.bcast_S1024x2048x4_S1x1024x2048x4_1_2_3
        (transpose S1024x2048x4 [0, 2, 1] x Facts₀.transposes_S1024x4x2048_S1024x2048x4_0_2_1))) (ix4 s n l v) = g (ix4 s n l v) + x (ix3 n v l) := by
  pointwise

/-- A noisy logit. -/
theorem noisy_at (x : FVec Ideal S1024x4x2048 .f32) (s : Fin 4) (n : Fin 1024) (l : Fin 2048) (v : Fin 4) :
    noisy x (ix4 s n l v) = noise (word s n l v) + x (ix3 n v l) := by
  unfold noisy
  rw [noisy_of, fn_gumbel_at key_is]

/-- A one-hot code, at an element. -/
theorem oneHot_at (w : IVec S4x1024x2048 32) (s : Fin 4) (n : Fin 1024) (l : Fin 2048) (v : Fin 4) :
    oneHot w (ix4 s n l v) = (((IntOp.cmpi .eq (w (ix3 s n l)) (BitVec.ofNat 32 v.val)).toNat : ℝ) : EReal) := by
  unfold oneHot
  pointwise
  rfl

/-- A code less a share plus the share, for any code and any shares. -/
theorem straight_of (g : FVec Ideal S4x1024x2048x4 .f32) (p : FVec Ideal S1024x4x2048 .f32) (s : Fin 4) (n : Fin 1024) (l : Fin 2048) (v : Fin 4) :
    addf (subf (transpose S4x1024x4x2048 [0, 1, 3, 2] g Facts₀.transposes_S4x1024x2048x4_S4x1024x4x2048_0_1_3_2) (spread p)) (spread p) (ix4 s n v l) = g (ix4 s n l v) - p (ix3 n v l) + p (ix3 n v l) := by
  unfold spread
  pointwise

/-- The place of the largest noisy logit. -/
def winner (θ : FVec Ideal S1024x4x2048 .f32) : IVec S4x1024x2048 32 := Cert.Pre_clear_winner.fn_argmax (F := Ideal) (noisy θ)

/-- The straight-through sample, at an element. -/
theorem straight_at (θ : FVec Ideal S1024x4x2048 .f32) (s : Fin 4) (n : Fin 1024) (l : Fin 2048) (v : Fin 4) :
    straight θ (ix4 s n v l) = (((IntOp.cmpi .eq (winner θ (ix3 s n l)) (BitVec.ofNat 32 v.val)).toNat : ℝ) : EReal)
      - shares (powers θ) (ix3 n v l) + shares (powers θ) (ix3 n v l) := by
  unfold straight
  rw [straight_of, oneHot_at, scaled_eq]
  unfold winner
  with_reducible rfl

/-- The largest of four numbers, as the reference takes it. -/
def peak (f : Fin 4 → EReal) : EReal := Finset.univ.fold max (Ideal.ofBits .f32 0xFF800000#32) f

/-- The largest logit. -/
theorem peak_at (x : FVec Ideal S1024x4x2048 .f32) (n : Fin 1024) (l : Fin 2048) :
    Host.reduce FloatOps.maximumf x (constant S_ .f32 0xFF800000#32) Facts₀.reducesTo_S1024x4x2048_S1024x2048_d1 Facts₀.h_S_ (ix2 n l)
      = peak fun v => x (ix3 n v l) := by
  pointwise
  rfl

/-- An exponential, for any largest. -/
theorem powers_of (x : FVec Ideal S1024x4x2048 .f32) (M : FVec Ideal S1024x2048 .f32) (n : Fin 1024) (l : Fin 2048) (v : Fin 4) :
    Host.exp (subf x (broadcastInDim S1024x4x2048 ![0, 1, 2] Facts₀.bcast_S1024x1x2048_S1024x4x2048_0_1_2
      (broadcastInDim S1024x1x2048 ![0, 2] Facts₀.bcast_S1024x2048_S1024x1x2048_0_2
        (maximumf (broadcastInDim S1024x2048 ![] Facts₀.bcast_S_S1024x2048 (constant S_ .f32 0xFF800000#32)) M)))) (ix3 n v l)
      = Ideal.exp (x (ix3 n v l) - max (Ideal.ofBits .f32 0xFF800000#32) (M (ix2 n l))) := by
  pointwise

/-- An exponential of a logit less the largest. -/
theorem powers_at (θ : FVec Ideal S1024x4x2048 .f32) (n : Fin 1024) (l : Fin 2048) (v : Fin 4) :
    powers θ (ix3 n v l) = Ideal.exp (θ (ix3 n v l) - max (Ideal.ofBits .f32 0xFF800000#32) (peak fun v => θ (ix3 n v l))) := by
  unfold powers
  rw [powers_of, peak_at]

/-- A share of a sum of four. -/
theorem shares_at (e : FVec Ideal S1024x4x2048 .f32) (n : Fin 1024) (l : Fin 2048) (v : Fin 4) :
    shares e (ix3 n v l) = Ideal.div (e (ix3 n v l)) (∑ u, e (ix3 n u l)) := by
  unfold shares
  pointwise

/-- The reference's result, at an element. -/
theorem result_at (θ : FVec Ideal S1024x4x2048 .f32) (up down : FVec Ideal S4x1024x4x200 .f32) (b : Fin 4096) (v : Fin 4) (k : Fin 2448) :
    result θ up down (ix3 b v k) =
      if h : k.val < 200 then up (ix4 ⟨b.val / 1024, by omega⟩ ⟨b.val % 1024, by omega⟩ v ⟨k.val, h⟩)
      else if h' : k.val - 200 < 2048 then straight θ (ix4 ⟨b.val / 1024, by omega⟩ ⟨b.val % 1024, by omega⟩ v ⟨k.val - 200, h'⟩)
      else down (ix4 ⟨b.val / 1024, by omega⟩ ⟨b.val % 1024, by omega⟩ v ⟨k.val - 200 - 2048, by omega⟩) := by
  unfold result
  pointwise

end Cert.RefRead

end

end
-- ==== Proof.Gap.lean ====
/-
  Real analysis of the two scores. The reference keeps the uniform numbers off zero by a mixture with the smallest
  normal number, and the kernel does not: the two scores of a category differ by less than the gap the precondition asks
  for, so the category of the largest noisy logit has the greatest score of the kernel too.
-/
module

public import proofs.«01_k».proof.Proof.RefRead

@[expose] public section

noncomputable section

namespace Cert.Gap

open Idealize.ShloMosaic Cert.Model Cert.PreRead Cert.RefRead

/-! ### The numbers -/

/-- The fraction of a random word: its 23 leading bits. -/
def fraction (w : BitVec 32) : ℕ := (w >>> 9#32).toNat

/-- The fraction is below 2^23. -/
theorem fraction_lt (w : BitVec 32) : fraction w < 8388608 := by
  have h := w.isLt
  unfold fraction
  rw [BitVec.ushiftRight_eq', BitVec.toNat_ushiftRight, Nat.shiftRight_eq_div_pow]
  show w.toNat / 2 ^ 9 < _
  omega

/-- The uniform number of a word, as a real number. -/
def draws (w : BitVec 32) : ℝ := fraction w / 8388608

/-- The pattern of a uniform number plus one. -/
theorem pattern (w : BitVec 32) : ((w >>> 9#32) ||| 1065353216#32).toNat = 1065353216 + fraction w := by
  have h := fraction_lt w
  rw [BitVec.toNat_or]
  show fraction w ||| 1065353216 = _
  rw [Nat.or_comm]
  exact (Nat.two_pow_add_eq_or_of_lt (i := 23) h 127).symm

/-- A positive normal number, by its exponent and its fraction. -/
theorem normal (b : BitVec 32) (e f : ℕ) (p : b.toNat = e * 8388608 + f) (hf : f < 8388608) (h0 : 0 < e) (h1 : e < 255) :
    Ideal.ofBits .f32 b = (((8388608 + f) * 2 ^ ((e : ℤ) - 150) : ℝ) : EReal) := by
  have hs : BitVec.extractLsb' 31 1 b = 0#1 := by
    apply BitVec.eq_of_toNat_eq
    rw [BitVec.extractLsb'_toNat, p, Nat.shiftRight_eq_div_pow]
    show _ = 0
    omega
  have he : (BitVec.extractLsb' 23 8 b).toNat = e := by
    rw [BitVec.extractLsb'_toNat, p, Nat.shiftRight_eq_div_pow]
    omega
  have hm : (BitVec.extractLsb' 0 23 b).toNat = f := by
    rw [BitVec.extractLsb'_toNat, p, Nat.shiftRight_eq_div_pow]
    omega
  show Ideal.ieee 8 23 b = _
  unfold Ideal.ieee
  simp only [hs, he, hm]
  rw [if_neg (by omega), if_neg (by omega)]
  refine congrArg _ ?_
  rw [show (e : ℤ) - (2 ^ (8 - 1) - 1) - ((23 : ℕ) : ℤ) = (e : ℤ) - 150 by norm_num; ring]
  norm_num

/-- The uniform number of a word is its fraction over 2^23. -/
theorem unif_eq (w : BitVec 32) : unif w = (draws w : EReal) := by
  unfold unif
  rw [normal _ 127 (fraction w) (by rw [pattern]) (fraction_lt w) (by norm_num) (by norm_num),
    show (1 : EReal) = ((1 : ℝ) : EReal) from rfl, ← EReal.coe_sub]
  refine congrArg _ ?_
  norm_num [draws]
  ring

/-- It is below one. -/
theorem draws_lt (w : BitVec 32) : draws w < 1 := by
  have h : (fraction w : ℝ) < 8388608 := by exact_mod_cast fraction_lt w
  unfold draws
  rw [div_lt_one (by norm_num)]
  exact h

/-- It is not negative. -/
theorem draws_nonneg (w : BitVec 32) : 0 ≤ draws w := by
  unfold draws
  positivity

/-- A word whose leading bits are not all zero draws at least one step. -/
theorem draws_ge (w : BitVec 32) (h : w >>> 9#32 ≠ 0#32) : 1 / 8388608 ≤ draws w := by
  have h1 : 1 ≤ fraction w := by
    rcases Nat.eq_zero_or_pos (fraction w) with h0 | h0
    · exact absurd (BitVec.eq_of_toNat_eq (x := w >>> 9#32) (y := 0#32) h0) h
    · exact h0
  have h2 : (1 : ℝ) ≤ fraction w := by exact_mod_cast h1
  unfold draws
  gcongr

/-- The smallest normal number. -/
def tiny : ℝ := 1 / 2 ^ 126

/-- Its pattern denotes it. -/
theorem tiny_eq : Ideal.ofBits .f32 0x00800000#32 = (tiny : EReal) := by
  rw [normal _ 1 0 (by decide) (by norm_num) (by norm_num) (by norm_num)]
  refine congrArg _ ?_
  norm_num [tiny]

/-- The gap the precondition asks for. -/
def gap : ℝ := 5316912 * (1 / 2 ^ 122)

/-- Its pattern denotes it. -/
theorem gap_eq : Ideal.ofBits .f32 0x0DA24260#32 = (gap : EReal) := by
  rw [normal _ 27 2245216 (by decide) (by norm_num) (by norm_num) (by norm_num)]
  refine congrArg _ ?_
  norm_num [gap]

/-- The pattern of minus infinity denotes it. -/
theorem bottom : Ideal.ofBits .f32 0xFF800000#32 = ⊥ := by simp [Ideal.ofBits, Ideal.ieee]

/-! ### The two scores of a category -/

/-- The uniform number off zero, as the reference mixes it. -/
def mixed (u : ℝ) : ℝ := u * (1 - tiny) + tiny

/-- The smallest normal number is positive. -/
theorem tiny_pos : 0 < tiny := by unfold tiny; positivity

/-- It is at most a half. -/
theorem tiny_le : tiny ≤ 1 / 2 := by unfold tiny; norm_num

/-- The mixture is positive. -/
theorem mixed_pos {u : ℝ} (h : 0 ≤ u) : 0 < mixed u := by
  have := tiny_pos; have := tiny_le
  unfold mixed
  nlinarith

/-- It is below one. -/
theorem mixed_lt {u : ℝ} (h : u < 1) : mixed u < 1 := by
  have := tiny_pos; have := tiny_le
  unfold mixed
  nlinarith

/-- It is not below the uniform number. -/
theorem le_mixed {u : ℝ} (h : u < 1) : u ≤ mixed u := by
  have := tiny_pos
  unfold mixed
  nlinarith

/-- The noise of a uniform number. -/
def level (u : ℝ) : ℝ := -Real.log (-Real.log u)

/-- The reference's noise is the noise of the mixture, a real number. -/
theorem noise_eq (w : BitVec 32) : noise w = (level (mixed (draws w)) : EReal) := by
  have hu := draws_nonneg w
  have h1 := draws_lt w
  have ht := tiny_pos
  have hp := mixed_pos hu
  have hl : Real.log (mixed (draws w)) < 0 := Real.log_neg hp (mixed_lt h1)
  have hm : max tiny (mixed (draws w)) = mixed (draws w) := max_eq_right (by
    have := tiny_le
    unfold mixed
    nlinarith)
  have e : max (Ideal.ofBits .f32 0x00800000#32) (unif w * (1 - Ideal.ofBits .f32 0x00800000#32) + Ideal.ofBits .f32 0x00800000#32) = (mixed (draws w) : EReal) := by
    rw [tiny_eq, unif_eq, show (1 : EReal) = ((1 : ℝ) : EReal) from rfl, ← EReal.coe_sub, ← EReal.coe_mul, ← EReal.coe_add]
    exact (EReal.coe_strictMono.monotone.map_max (a := tiny) (b := mixed (draws w))).symm.trans (congrArg _ hm)
  unfold noise level
  rw [e, Ideal.log_coe, if_neg (not_le.mpr hp), ← EReal.coe_neg, Ideal.log_coe, if_neg (by linarith), ← EReal.coe_neg]

/-- The kernel's score is the logit plus the noise of the uniform number, where that is not zero. -/
theorem score_eq {w : BitVec 32} (x : EReal) (h : 0 < draws w) : score x w = x + (level (draws w) : EReal) := by
  have hl : Real.log (draws w) < 0 := Real.log_neg h (draws_lt w)
  unfold score level
  rw [unif_eq, Ideal.log_coe, if_neg (not_le.mpr h), show (0 : EReal) = ((0 : ℝ) : EReal) from rfl, ← EReal.coe_sub, Ideal.log_coe,
    if_neg (by linarith), zero_sub, sub_eq_add_neg, ← EReal.coe_neg]

/-- The kernel's score is minus infinity where the uniform number is zero. -/
theorem score_zero {w : BitVec 32} {x : EReal} (hx : x < ⊤) (h : draws w = 0) : score x w = ⊥ := by
  unfold score
  rw [unif_eq, h, Ideal.log_coe, if_pos le_rfl, EReal.sub_bot (by simp), Ideal.log_top]
  exact EReal.sub_top _

/-- The mixture raises the noise. -/
theorem level_le {u : ℝ} (h0 : 0 < u) (h1 : u < 1) : level u ≤ level (mixed u) := by
  have hm := mixed_lt h1
  have hl := Real.log_le_log h0 (le_mixed h1)
  have hn : Real.log (mixed u) < 0 := Real.log_neg (mixed_pos h0.le) hm
  unfold level
  have := Real.log_le_log (x := -Real.log (mixed u)) (y := -Real.log u) (by linarith) (by linarith)
  linarith

/-- It raises it by less than the gap. -/
theorem level_ge {u : ℝ} (h0 : 1 / 8388608 ≤ u) (h1 : u < 1) : level (mixed u) - gap ≤ level u := by
  have hu : 0 < u := lt_of_lt_of_le (by norm_num) h0
  have hp := mixed_pos hu.le
  have hm := mixed_lt h1
  have ht := tiny_pos
  have ht2 := tiny_le
  have hn : Real.log (mixed u) < 0 := Real.log_neg hp hm
  have hn' : Real.log u < 0 := Real.log_neg hu h1
  have hb : (1 - u) * (1 - tiny) ≤ -Real.log (mixed u) := by
    have := Real.log_le_sub_one_of_pos hp
    unfold mixed at *
    nlinarith
  have hab : -Real.log u - -Real.log (mixed u) ≤ tiny * (1 - u) / u := by
    have h2 := Real.log_le_sub_one_of_pos (div_pos hp hu)
    rw [Real.log_div hp.ne' hu.ne'] at h2
    have h3 : mixed u / u - 1 = tiny * (1 - u) / u := by
      unfold mixed
      field_simp
      ring
    linarith
  have hq := Real.log_le_sub_one_of_pos (x := -Real.log u / -Real.log (mixed u)) (div_pos (by linarith) (by linarith))
  rw [Real.log_div (by linarith) (by linarith)] at hq
  have hr : -Real.log u / -Real.log (mixed u) - 1 ≤ gap := by
    have hb0 : 0 < -Real.log (mixed u) := by linarith
    rw [sub_le_iff_le_add, div_le_iff₀ hb0]
    have h4 : tiny * (1 - u) / u ≤ tiny * (1 - u) * 8388608 := by
      rw [div_le_iff₀ hu]
      have : 0 ≤ tiny * (1 - u) := mul_nonneg ht.le (by linarith)
      nlinarith
    have h5 : tiny * 8388608 * 2 ≤ gap := by unfold tiny gap; norm_num
    have h6 : tiny * (1 - u) * 8388608 ≤ gap * ((1 - u) * (1 - tiny)) := by
      have h7 : 0 ≤ 1 - u := by linarith
      have h8 : tiny * 8388608 ≤ gap * (1 - tiny) := by nlinarith
      nlinarith
    have h9 : 0 ≤ gap := by unfold gap; positivity
    have h10 := mul_le_mul_of_nonneg_left hb h9
    linarith
  unfold level
  linarith

/-- The kernel's score is not above the noisy logit. -/
theorem score_le (w : BitVec 32) {x : EReal} (hx : x < ⊤) : score x w ≤ noise w + x := by
  rcases (draws_nonneg w).eq_or_lt with h | h
  · rw [score_zero hx h.symm]
    exact bot_le
  · rw [score_eq x h, noise_eq, add_comm]
    exact add_le_add_left (EReal.coe_le_coe_iff.mpr (level_le h (draws_lt w))) x

/-- Nor is it below by more than the gap, where the uniform number is not zero. -/
theorem score_ge {w : BitVec 32} (x : EReal) (h : w >>> 9#32 ≠ 0#32) : noise w + x - (gap : EReal) ≤ score x w := by
  have h0 := draws_ge w h
  rw [score_eq x (lt_of_lt_of_le (by norm_num) h0), noise_eq, add_comm, sub_eq_add_neg, add_assoc, ← EReal.coe_neg, ← EReal.coe_add]
  exact add_le_add_right (EReal.coe_le_coe_iff.mpr (by have := level_ge h0 (draws_lt w); linarith)) x

/-! ### The winner -/

/-- The largest of four numbers is one of them. -/
theorem peak_is (f : Fin 4 → EReal) : ∃ v, peak f = f v ∧ ∀ u, f u ≤ f v := by
  obtain ⟨v, _, hv⟩ := Finset.exists_max_image Finset.univ f Finset.univ_nonempty
  refine ⟨v, le_antisymm ?_ ?_, fun u => hv u (Finset.mem_univ u)⟩
  · unfold peak
    rw [Finset.fold_max_le, bottom]
    exact ⟨bot_le, fun u hu => hv u hu⟩
  · unfold peak
    rw [Finset.le_fold_max]
    exact Or.inr ⟨v, Finset.mem_univ v, le_rfl⟩

/-- The greatest of four scores is the one that none exceeds. -/
theorem top_is {g : Fin 4 → EReal} {v : Fin 4} (h : ∀ u, g u ≤ g v) : top g = g v := by
  refine le_antisymm (max_le (max_le (h 0) (h 1)) (max_le (h 2) (h 3))) ?_
  unfold top
  fin_cases v
  · exact le_max_of_le_left (le_max_left _ _)
  · exact le_max_of_le_left (le_max_right _ _)
  · exact le_max_of_le_right (le_max_left _ _)
  · exact le_max_of_le_right (le_max_right _ _)

/-- Four categories have four different codes. -/
theorem code_inj {u v : Fin 4} (h : BitVec.ofNat 32 u.val = BitVec.ofNat 32 v.val) : u = v := by
  revert u v
  decide

/-- Where a clear winner is asked for, the category of the largest noisy logit has the greatest score of the kernel, alone. -/
theorem clear_winner (x : Fin 4 → EReal) (w : Fin 4 → BitVec 32) (W : BitVec 32) (hx : ∀ v, x v < ⊤)
    (h : ∀ v : Fin 4, (BitVec.ofNat 32 v.val = W ∧ w v >>> 9#32 ≠ 0#32)
      ∨ (BitVec.ofNat 32 v.val ≠ W ∧ noise (w v) + x v < (peak fun u => noise (w u) + x u) - Ideal.ofBits .f32 0x0DA24260#32)) :
    ∃ v0 : Fin 4, BitVec.ofNat 32 v0.val = W ∧ x v0 ≠ ⊥ ∧ ∀ v, v ≠ v0 → score (x v) (w v) < score (x v0) (w v0) := by
  obtain ⟨v0, hp, _⟩ := peak_is fun u => noise (w u) + x u
  rw [hp, gap_eq] at h
  have hg : 0 ≤ gap := by unfold gap; positivity
  have hW : BitVec.ofNat 32 v0.val = W ∧ w v0 >>> 9#32 ≠ 0#32 := by
    rcases h v0 with h0 | h0
    · exact h0
    · refine absurd h0.2 (not_lt.mpr ?_)
      rw [sub_eq_add_neg, ← EReal.coe_neg]
      exact add_le_of_nonpos_right (by exact_mod_cast (by linarith : -gap ≤ 0))
  have ho : ∀ v, v ≠ v0 → noise (w v) + x v < noise (w v0) + x v0 - (gap : EReal) := fun v hv => by
    rcases h v with h0 | h0
    · exact absurd (code_inj (h0.1.trans hW.1.symm)) hv
    · exact h0.2
  refine ⟨v0, hW.1, fun hb => ?_, fun v hv => lt_of_le_of_lt (score_le _ (hx v)) (lt_of_lt_of_le (ho v hv) (score_ge _ hW.2))⟩
  obtain ⟨v, hv⟩ : ∃ v : Fin 4, v ≠ v0 := exists_ne v0
  have h1 := ho v hv
  rw [hb, EReal.add_bot, sub_eq_add_neg, EReal.bot_add] at h1
  exact absurd h1 not_lt_bot

/-! ### The shares -/

/-- The shares of four logits, none of them plus infinity and not all of them minus infinity, are real numbers. -/
theorem share_real (x : Fin 4 → EReal) (hx : ∀ v, x v < ⊤) {v0 : Fin 4} (h0 : x v0 ≠ ⊥) (v : Fin 4) : ∃ r : ℝ,
    Ideal.div (Ideal.exp (x v - max (Ideal.ofBits .f32 0xFF800000#32) (peak x)))
      (∑ u, Ideal.exp (x u - max (Ideal.ofBits .f32 0xFF800000#32) (peak x))) = (r : EReal) := by
  obtain ⟨v1, hp, hm⟩ := peak_is x
  have hb : x v1 ≠ ⊥ := fun hb => h0 (le_bot_iff.mp (hb ▸ hm v0))
  obtain ⟨M, hM⟩ : ∃ M : ℝ, x v1 = (M : EReal) := ⟨(x v1).toReal, (EReal.coe_toReal (hx v1).ne hb).symm⟩
  have hq : ∀ u, ∃ q : ℝ, 0 ≤ q ∧ (u = v1 → 0 < q) ∧ Ideal.exp (x u - (M : EReal)) = (q : EReal) := fun u => by
    by_cases hu : x u = ⊥
    · refine ⟨0, le_rfl, fun e => absurd (e ▸ hu) hb, ?_⟩
      rw [hu, sub_eq_add_neg, EReal.bot_add, Ideal.exp_bot]
      rfl
    · refine ⟨Real.exp ((x u).toReal - M), (Real.exp_pos _).le, fun _ => Real.exp_pos _, ?_⟩
      rw [← Ideal.exp_coe, EReal.coe_sub, EReal.coe_toReal (hx u).ne hu]
  choose q q0 q1 qe using hq
  rw [bottom, hp, hM, max_eq_right bot_le]
  have hs : (∑ u, Ideal.exp (x u - (M : EReal))) = ((∑ u, q u : ℝ) : EReal) := by
    simp only [qe, Fin.sum_univ_four, EReal.coe_add]
  have hpos : 0 < ∑ u, q u := Finset.sum_pos' (fun u _ => q0 u) ⟨v1, Finset.mem_univ _, q1 v1 rfl⟩
  refine ⟨q v * (1 / ∑ u, q u), ?_⟩
  rw [hs, qe, Ideal.div_coe hpos.ne', EReal.coe_mul]

/-- A real share taken off and put back changes nothing. -/
theorem cancel (a r : ℝ) : (a : EReal) - (r : EReal) + (r : EReal) = (a : EReal) := by
  rw [← EReal.coe_sub, ← EReal.coe_add]
  exact congrArg _ (by ring)

end Cert.Gap

end

end
-- ==== Proof.PreAt.lean ====
/-
  The precondition, element by element.
-/
module

public import proofs.«01_k».proof.Proof.RefRead
public import proofs.«01_k».proof.Proof.PreRead
public import Idealize.ShloMosaic.Lib.StableHlo.Predicate

@[expose] public section

noncomputable section

namespace Cert.PreAt

open Idealize.ShloMosaic Cert.ReferenceIdeal Cert.RefRun Cert.Threefry Cert.Model Cert.PreRead Cert.RefRead

/-! ### The precondition -/

/-- A bit of a decided statement that is one says that the statement holds. -/
theorem of_one {p : Prop} [Decidable p] (h : BitVec.ofBool (decide p) = 1#1) : p := by
  by_contra hp
  rw [decide_eq_false hp] at h
  exact absurd h (by decide)

/-- The first condition, at any noisy logits, winners and random bits. -/
theorem clear_of (z : FVec Ideal S4x1024x2048x4 .f32) (w : IVec S4x1024x2048 32) (M : FVec Ideal S4x1024x2048 .f32) (bit : IVec S4x1024x2048x4 32) (s : Fin 4) (n : Fin 1024) (l : Fin 2048) (v : Fin 4) :
    select (cmpi .eq (broadcastInDim S4x1024x2048x4 ![0, 1, 2, 3] Pre_clear_winner.Facts.bcast_S1x1x1x4_S4x1024x2048x4_0_1_2_3
          (broadcastInDim S1x1x1x4 ![3] Pre_clear_winner.Facts.bcast_S4_S1x1x1x4_3 (iotaInDim Pre_clear_winner.S4 32 0)))
        (broadcastInDim S4x1024x2048x4 ![0, 1, 2, 3] Pre_clear_winner.Facts.bcast_S4x1024x2048x1_S4x1024x2048x4_0_1_2_3
          (broadcastInDim S4x1024x2048x1 ![0, 1, 2] Pre_clear_winner.Facts.bcast_S4x1024x2048_S4x1024x2048x1_0_1_2 w)))
      (cmpi .ne (Host.shrui bit (broadcastInDim S4x1024x2048x4 ![] Pre_clear_winner.Facts.bcast_S_S4x1024x2048x4 (constantI S_ 32 9#32)))
        (broadcastInDim S4x1024x2048x4 ![] Pre_clear_winner.Facts.bcast_S_S4x1024x2048x4 (constantI S_ 32 0#32)))
      (cmpf .olt z (broadcastInDim S4x1024x2048x4 ![0, 1, 2, 3] Pre_clear_winner.Facts.bcast_S4x1024x2048x1_S4x1024x2048x4_0_1_2_3
        (subf (broadcastInDim S4x1024x2048x1 ![0, 1, 2] Pre_clear_winner.Facts.bcast_S4x1024x2048_S4x1024x2048x1_0_1_2
            M)
          (broadcastInDim S4x1024x2048x1 ![] Pre_clear_winner.Facts.bcast_S_S4x1024x2048x1 (constant S_ .f32 0x0DA24260#32))))) (ix4 s n l v)
      = Scalar.select (IntOp.cmpi .eq (BitVec.ofNat 32 v.val) (w (ix3 s n l)))
        (IntOp.cmpi .ne (IntOp.shrui .host (bit (ix4 s n l v)) 9#32) 0#32)
        (BitVec.ofBool (decide (z (ix4 s n l v) < M (ix3 s n l) - Ideal.ofBits .f32 0x0DA24260#32))) := by
  pointwise

/-- The largest noisy logit. -/
theorem largest_at (z : FVec Ideal S4x1024x2048x4 .f32) (s : Fin 4) (n : Fin 1024) (l : Fin 2048) :
    Host.reduce FloatOps.maximumf z (constant S_ .f32 0xFF800000#32) Pre_clear_winner.Facts.reducesTo_S4x1024x2048x4_S4x1024x2048_d3 Pre_clear_winner.Facts.h_S_ (ix3 s n l)
      = peak fun v => z (ix4 s n l v) := by
  unfold peak
  pointwise

/-- The first condition, at an element: a category other than the winner lies behind by more than the gap, and the winner's draw
    is not zero. -/
theorem clear_at (θ : FVec Ideal S1024x4x2048 .f32) (up down : FVec Ideal S4x1024x4x200 .f32) (s : Fin 4) (n : Fin 1024) (l : Fin 2048) (v : Fin 4)
    (h : (Cert.Pre_clear_winner.fn (F := Ideal) θ up down).1 (ix4 s n l v) = 1#1) :
    (BitVec.ofNat 32 v.val = winner θ (ix3 s n l) ∧ word s n l v >>> 9#32 ≠ 0#32)
      ∨ (BitVec.ofNat 32 v.val ≠ winner θ (ix3 s n l)
        ∧ noisy θ (ix4 s n l v) < (peak fun u => noisy θ (ix4 s n l u)) - Ideal.ofBits .f32 0x0DA24260#32) := by
  have e := clear_of (noisy θ) (winner θ)
    (Host.reduce FloatOps.maximumf (noisy θ) (constant S_ .f32 0xFF800000#32) Pre_clear_winner.Facts.reducesTo_S4x1024x2048x4_S4x1024x2048_d3 Pre_clear_winner.Facts.h_S_)
    (bits key) s n l v
  rw [largest_at, bits_at key_is] at e
  have f : (Cert.Pre_clear_winner.fn (F := Ideal) θ up down).1 = select (cmpi .eq (broadcastInDim S4x1024x2048x4 ![0, 1, 2, 3] Pre_clear_winner.Facts.bcast_S1x1x1x4_S4x1024x2048x4_0_1_2_3
          (broadcastInDim S1x1x1x4 ![3] Pre_clear_winner.Facts.bcast_S4_S1x1x1x4_3 (iotaInDim Pre_clear_winner.S4 32 0)))
        (broadcastInDim S4x1024x2048x4 ![0, 1, 2, 3] Pre_clear_winner.Facts.bcast_S4x1024x2048x1_S4x1024x2048x4_0_1_2_3
          (broadcastInDim S4x1024x2048x1 ![0, 1, 2] Pre_clear_winner.Facts.bcast_S4x1024x2048_S4x1024x2048x1_0_1_2 (winner θ))))
      (cmpi .ne (Host.shrui (bits key) (broadcastInDim S4x1024x2048x4 ![] Pre_clear_winner.Facts.bcast_S_S4x1024x2048x4 (constantI S_ 32 9#32)))
        (broadcastInDim S4x1024x2048x4 ![] Pre_clear_winner.Facts.bcast_S_S4x1024x2048x4 (constantI S_ 32 0#32)))
      (cmpf .olt (noisy θ) (broadcastInDim S4x1024x2048x4 ![0, 1, 2, 3] Pre_clear_winner.Facts.bcast_S4x1024x2048x1_S4x1024x2048x4_0_1_2_3
        (subf (broadcastInDim S4x1024x2048x1 ![0, 1, 2] Pre_clear_winner.Facts.bcast_S4x1024x2048_S4x1024x2048x1_0_1_2
            (Host.reduce FloatOps.maximumf (noisy θ) (constant S_ .f32 0xFF800000#32) Pre_clear_winner.Facts.reducesTo_S4x1024x2048x4_S4x1024x2048_d3 Pre_clear_winner.Facts.h_S_))
          (broadcastInDim S4x1024x2048x1 ![] Pre_clear_winner.Facts.bcast_S_S4x1024x2048x1 (constant S_ .f32 0x0DA24260#32))))) := by
    unfold Cert.Pre_clear_winner.fn Cert.Pre_clear_winner.fn_part1 Cert.Pre_clear_winner.fn_part2 Cert.Pre_clear_winner.fn_part3 Cert.Pre_clear_winner.fn_where
      winner noisy bits counters key
    with_reducible rfl
  rw [f, e] at h
  have hs : IntOp.shrui .host (word s n l v) 9#32 = word s n l v >>> 9#32 := host_shr (by decide)
  rw [hs] at h
  by_cases hw : BitVec.ofNat 32 v.val = winner θ (ix3 s n l)
  · refine Or.inl ⟨hw, fun h0 => ?_⟩
    rw [StableHlo.Predicate.cmpi_eq_iff.mpr hw, h0] at h
    exact absurd (show IntOp.cmpi .ne (0#32) 0#32 = 1#1 from h) (by decide)
  · refine Or.inr ⟨hw, ?_⟩
    have hc : IntOp.cmpi .eq (BitVec.ofNat 32 v.val) (winner θ (ix3 s n l)) = 0#1 :=
      (BitVec.eq_zero_or_eq_one _).resolve_right fun h1 => hw (StableHlo.Predicate.cmpi_eq_iff.mp h1)
    rw [hc] at h
    exact of_one h

/-- The second condition, at an element. -/
theorem finite_at (θ : FVec Ideal S1024x4x2048 .f32) (up down : FVec Ideal S4x1024x4x200 .f32) (i : S1024x4x2048.Idx)
    (h : (Cert.Pre_clear_winner.fn (F := Ideal) θ up down).2.1 i = 1#1) : θ i < ⊤ := by
  have f : (Cert.Pre_clear_winner.fn (F := Ideal) θ up down).2.1
    = cmpf .olt θ (broadcastInDim S1024x4x2048 ![] Pre_clear_winner.Facts.bcast_S_S1024x4x2048 (constant S_ .f32 0x7F800000#32)) := rfl
  rw [f] at h
  have e : cmpf .olt θ (broadcastInDim S1024x4x2048 ![] Pre_clear_winner.Facts.bcast_S_S1024x4x2048 (constant S_ .f32 0x7F800000#32)) i
    = BitVec.ofBool (decide (θ i < Ideal.ofBits .f32 0x7F800000#32)) := by pointwise
  rw [e] at h
  have t : Ideal.ofBits .f32 0x7F800000#32 = ⊤ := by simp [Ideal.ofBits, Ideal.ieee]
  rw [t] at h
  exact of_one h

/-- A table equal to its first sample and row, at an element. -/
theorem flat_of (x : FVec Ideal S4x1024x4x200 .f32) (s : Fin 4) (n : Fin 1024) (v : Fin 4) (k : Fin 200)
    (h : cmpf .oeq x (broadcastInDim S4x1024x4x200 ![0, 1, 2, 3] Pre_clear_winner.Facts.bcast_S1x1x4x200_S4x1024x4x200_0_1_2_3
      (extractStridedSlice Pre_clear_winner.S1x1x4x200 ![0, 0, 0, 0] x Pre_clear_winner.Facts.slices_S4x1024x4x200_S1x1x4x200_0_0_0_0)) (ix4 s n v k) = 1#1) :
    x (ix4 s n v k) = x (ix4 0 0 v k) := by
  have e : cmpf .oeq x (broadcastInDim S4x1024x4x200 ![0, 1, 2, 3] Pre_clear_winner.Facts.bcast_S1x1x4x200_S4x1024x4x200_0_1_2_3
      (extractStridedSlice Pre_clear_winner.S1x1x4x200 ![0, 0, 0, 0] x Pre_clear_winner.Facts.slices_S4x1024x4x200_S1x1x4x200_0_0_0_0)) (ix4 s n v k)
      = BitVec.ofBool (decide (x (ix4 s n v k) = x (ix4 0 0 v k))) := by pointwise
  rw [e] at h
  exact of_one h

/-- The third condition. -/
theorem up_flat (θ : FVec Ideal S1024x4x2048 .f32) (up down : FVec Ideal S4x1024x4x200 .f32) (s : Fin 4) (n : Fin 1024) (v : Fin 4) (k : Fin 200)
    (h : (Cert.Pre_clear_winner.fn (F := Ideal) θ up down).2.2.1 (ix4 s n v k) = 1#1) : up (ix4 s n v k) = up (ix4 0 0 v k) :=
  flat_of up s n v k h

/-- The fourth condition. -/
theorem down_flat (θ : FVec Ideal S1024x4x2048 .f32) (up down : FVec Ideal S4x1024x4x200 .f32) (s : Fin 4) (n : Fin 1024) (v : Fin 4) (k : Fin 200)
    (h : (Cert.Pre_clear_winner.fn (F := Ideal) θ up down).2.2.2 (ix4 s n v k) = 1#1) : down (ix4 s n v k) = down (ix4 0 0 v k) :=
  flat_of down s n v k h

end Cert.PreAt

end

end
-- ==== Proof.KerThreefry.lean ====
/-
  The kernel's generator: at every element of a block, the random word that the kernel forms for category `v` is the word
  drawn at the element's counter. The kernel spells the generator out once for each category, so there is one theorem per
  category; each follows the kernel's values backwards, four rounds and a key injection at a time.
-/
module

public import proofs.«01_k».proof.Proof.Threefry
public import Idealize.ShloMosaic.PureOps.Ideal
public import proofs.«01_k».proof.Proof.Gen.KernelIdeal.Value

@[expose] public section

namespace Cert.KerRead

open Idealize.ShloMosaic Cert.KernelIdeal Cert.KernelIdeal.Gen Cert.Threefry

/-- A round of the kernel, at an element. -/
theorem round_at {a b : BitVec 32} {x₀ x₁ s y : IVec S32x2048 32} (ha : a.toNat < 32) (hb : b.toNat < 32) (hs : s = addi x₀ x₁)
    (hy : y = xori (ori (shli x₁ (broadcast S32x2048 a)) (shrui x₁ (broadcast S32x2048 b))) s)
    (j : S32x2048.Idx) : (s j, y j) = round a b (x₀ j, x₁ j) := by
  have e₁ : shli x₁ (broadcast S32x2048 a) j = x₁ j <<< a := if_pos ha
  have e₂ : shrui x₁ (broadcast S32x2048 b) j = x₁ j >>> b := if_pos hb
  have e₃ : y j = (shli x₁ (broadcast S32x2048 a) j ||| shrui x₁ (broadcast S32x2048 b) j) ^^^ s j := by rw [hy]; rfl
  rw [e₃, e₁, e₂, BitVec.xor_comm, hs]; rfl

/-- Four rounds of the first schedule, at an element. -/
theorem roundsA_at {x₀ x₁ s₁ s₂ s₃ s₄ y₁ y₂ y₃ y₄ : IVec S32x2048 32}
    (h₄ : s₄ = addi s₃ y₃) (h₃ : s₃ = addi s₂ y₂) (h₂ : s₂ = addi s₁ y₁) (h₁ : s₁ = addi x₀ x₁)
    (g₄ : y₄ = xori (ori (shli y₃ (broadcast S32x2048 6#32)) (shrui y₃ (broadcast S32x2048 26#32))) s₄)
    (g₃ : y₃ = xori (ori (shli y₂ (broadcast S32x2048 26#32)) (shrui y₂ (broadcast S32x2048 6#32))) s₃)
    (g₂ : y₂ = xori (ori (shli y₁ (broadcast S32x2048 15#32)) (shrui y₁ (broadcast S32x2048 17#32))) s₂)
    (g₁ : y₁ = xori (ori (shli x₁ (broadcast S32x2048 13#32)) (shrui x₁ (broadcast S32x2048 19#32))) s₁)
    (j : S32x2048.Idx) : (s₄ j, y₄ j) = roundsA (x₀ j, x₁ j) := by
  rw [round_at (by decide) (by decide) h₄ g₄, round_at (by decide) (by decide) h₃ g₃, round_at (by decide) (by decide) h₂ g₂,
    round_at (by decide) (by decide) h₁ g₁]
  rfl

/-- Four rounds of the second schedule, at an element. -/
theorem roundsB_at {x₀ x₁ s₁ s₂ s₃ s₄ y₁ y₂ y₃ y₄ : IVec S32x2048 32}
    (h₄ : s₄ = addi s₃ y₃) (h₃ : s₃ = addi s₂ y₂) (h₂ : s₂ = addi s₁ y₁) (h₁ : s₁ = addi x₀ x₁)
    (g₄ : y₄ = xori (ori (shli y₃ (broadcast S32x2048 24#32)) (shrui y₃ (broadcast S32x2048 8#32))) s₄)
    (g₃ : y₃ = xori (ori (shli y₂ (broadcast S32x2048 16#32)) (shrui y₂ (broadcast S32x2048 16#32))) s₃)
    (g₂ : y₂ = xori (ori (shli y₁ (broadcast S32x2048 29#32)) (shrui y₁ (broadcast S32x2048 3#32))) s₂)
    (g₁ : y₁ = xori (ori (shli x₁ (broadcast S32x2048 17#32)) (shrui x₁ (broadcast S32x2048 15#32))) s₁)
    (j : S32x2048.Idx) : (s₄ j, y₄ j) = roundsB (x₀ j, x₁ j) := by
  rw [round_at (by decide) (by decide) h₄ g₄, round_at (by decide) (by decide) h₃ g₃, round_at (by decide) (by decide) h₂ g₂,
    round_at (by decide) (by decide) h₁ g₁]
  rfl

/-- The whole generator from its stages: the words `(s, y)` after each of the five groups of rounds, where the first word
    starts at zero, the second at the counter `f` plus 42, and the kernel drops the addition of the key's zero word. -/
theorem word_at {z g f x₁ p₀ q₀ s₁ y₁ p₁ q₁ s₂ y₂ q₂ s₃ y₃ p₃ q₃ s₄ y₄ s₅ y₅ p₅ q₅ w : IVec S32x2048 32} {v : BitVec 32} {j : S32x2048.Idx}
    (hw : w = xori p₅ q₅) (hp₅ : p₅ = addi s₅ (broadcast _ 466689008#32)) (hq₅ : q₅ = addi y₅ (broadcast _ 5#32))
    (h₅ : (s₅ j, y₅ j) = roundsA (p₃ j, q₃ j)) (hp₃ : p₃ = addi s₄ (broadcast _ 42#32)) (hq₃ : q₃ = addi y₄ (broadcast _ 466689012#32))
    (h₄ : (s₄ j, y₄ j) = roundsB (s₃ j, q₂ j)) (hq₂ : q₂ = addi y₃ (broadcast _ 45#32))
    (h₃ : (s₃ j, y₃ j) = roundsA (p₁ j, q₁ j)) (hp₁ : p₁ = addi s₂ (broadcast _ 466689008#32)) (hq₁ : q₁ = addi y₂ (broadcast _ 2#32))
    (h₂ : (s₂ j, y₂ j) = roundsB (p₀ j, q₀ j)) (hp₀ : p₀ = addi s₁ (broadcast _ 42#32)) (hq₀ : q₀ = addi y₁ (broadcast _ 466689009#32))
    (h₁ : (s₁ j, y₁ j) = roundsA (z j, x₁ j)) (hz : z = broadcast _ 0#32) (hx : x₁ = addi f (broadcast _ 42#32))
    (hf : f = addi g (broadcast _ v)) : w j = draw (g j + v) := by
  have e₁ : roundsA (z j, x₁ j) = roundsA (inject 0#32 42#32 (0#32, f j)) := by rw [hz, hx]; rfl
  have e₂ : (p₀ j, q₀ j) = inject 42#32 (key2 0#32 42#32 + 1#32) (s₁ j, y₁ j) := by rw [hp₀, hq₀]; rfl
  have e₃ : (p₁ j, q₁ j) = inject (key2 0#32 42#32) (0#32 + 2#32) (s₂ j, y₂ j) := by rw [hp₁, hq₁]; rfl
  have e₄ : (s₃ j, q₂ j) = inject 0#32 (42#32 + 3#32) (s₃ j, y₃ j) := by
    rw [hq₂]; exact congrArg (fun t => (t, y₃ j + 45#32)) (BitVec.add_zero _).symm
  have e₅ : (p₃ j, q₃ j) = inject 42#32 (key2 0#32 42#32 + 4#32) (s₄ j, y₄ j) := by rw [hp₃, hq₃]; rfl
  have e₆ : w j = ((s₅ j, y₅ j).1 + 466689008#32) ^^^ ((s₅ j, y₅ j).2 + 5#32) := by rw [hw, hp₅, hq₅]; rfl
  have e₇ : f j = g j + v := by rw [hf]; rfl
  rw [e₆, h₅, e₅, h₄, e₄, h₃, e₃, h₂, e₂, h₁, e₁, e₇]
  rfl

/-- The word drawn for category 0. -/
theorem word0 (i : grid0.Coords) (j : S32x2048.Idx) : kernelRun0_A.sl.v176 i j = draw (kernelRun0_A.sl.v9 i j + 0#32) :=
  word_at (w := kernelRun0_A.sl.v176 i) (g := kernelRun0_A.sl.v9 i) (v := 0#32)
    (z := kernelRun0_A.sl.v10) (x₁ := kernelRun0_A.sl.v14 i)
    rfl rfl rfl
    (roundsA_at (s₄ := kernelRun0_A.sl.v165 i) (y₄ := kernelRun0_A.sl.v171 i) rfl rfl rfl rfl rfl rfl rfl rfl j) rfl rfl
    (roundsB_at (s₄ := kernelRun0_A.sl.v132 i) (y₄ := kernelRun0_A.sl.v138 i) rfl rfl rfl rfl rfl rfl rfl rfl j) rfl
    (roundsA_at (s₄ := kernelRun0_A.sl.v101 i) (y₄ := kernelRun0_A.sl.v107 i) rfl rfl rfl rfl rfl rfl rfl rfl j) rfl rfl
    (roundsB_at (s₄ := kernelRun0_A.sl.v69 i) (y₄ := kernelRun0_A.sl.v75 i) rfl rfl rfl rfl rfl rfl rfl rfl j) rfl rfl
    (roundsA_at (s₄ := kernelRun0_A.sl.v36 i) (y₄ := kernelRun0_A.sl.v42 i) rfl rfl rfl rfl rfl rfl rfl rfl j) rfl rfl rfl

/-- The word drawn for category 1. -/
theorem word1 (i : grid0.Coords) (j : S32x2048.Idx) : kernelRun0_A.sl.v357 i j = draw (kernelRun0_A.sl.v9 i j + 1#32) :=
  word_at (w := kernelRun0_A.sl.v357 i) (g := kernelRun0_A.sl.v9 i) (v := 1#32)
    (z := broadcast _ 0#32) (x₁ := k0_pay41 (kernelRun0_A.sl.v9 i))
    rfl rfl rfl
    (roundsA_at (s₄ := kernelRun0_A.sl.v346 i) (y₄ := kernelRun0_A.sl.v352 i) rfl rfl rfl rfl rfl rfl rfl rfl j) rfl rfl
    (roundsB_at (s₄ := kernelRun0_A.sl.v313 i) (y₄ := kernelRun0_A.sl.v319 i) rfl rfl rfl rfl rfl rfl rfl rfl j) rfl
    (roundsA_at (s₄ := kernelRun0_A.sl.v282 i) (y₄ := kernelRun0_A.sl.v288 i) rfl rfl rfl rfl rfl rfl rfl rfl j) rfl rfl
    (roundsB_at (s₄ := kernelRun0_A.sl.v250 i) (y₄ := kernelRun0_A.sl.v256 i) rfl rfl rfl rfl rfl rfl rfl rfl j) rfl rfl
    (roundsA_at (s₄ := kernelRun0_A.sl.r_1 i) (y₄ := kernelRun0_A.sl.v223 i) rfl rfl rfl rfl rfl rfl rfl rfl j) rfl rfl rfl

/-- The word drawn for category 2. -/
theorem word2 (i : grid0.Coords) (j : S32x2048.Idx) :
    xori (kernelRun0_A.sl.v535 i) (addi (kernelRun0_A.sl.v533 i) kernelRun0_A.sl.v174) j = draw (kernelRun0_A.sl.v9 i j + 2#32) :=
  word_at (w := xori (kernelRun0_A.sl.v535 i) (addi (kernelRun0_A.sl.v533 i) kernelRun0_A.sl.v174)) (g := kernelRun0_A.sl.v9 i) (v := 2#32)
    (z := broadcast _ 0#32) (x₁ := k0_pay76 (kernelRun0_A.sl.v9 i))
    rfl rfl rfl
    (roundsA_at (s₄ := kernelRun0_A.sl.v527 i) (y₄ := kernelRun0_A.sl.v533 i) rfl rfl rfl rfl rfl rfl rfl rfl j) rfl rfl
    (roundsB_at (s₄ := kernelRun0_A.sl.v494 i) (y₄ := kernelRun0_A.sl.v500 i) rfl rfl rfl rfl rfl rfl rfl rfl j) rfl
    (roundsA_at (s₄ := kernelRun0_A.sl.v463 i) (y₄ := kernelRun0_A.sl.v469 i) rfl rfl rfl rfl rfl rfl rfl rfl j) rfl rfl
    (roundsB_at (s₄ := kernelRun0_A.sl.v431 i) (y₄ := kernelRun0_A.sl.v437 i) rfl rfl rfl rfl rfl rfl rfl rfl j) rfl rfl
    (roundsA_at (s₄ := kernelRun0_A.sl.r_5 i) (y₄ := kernelRun0_A.sl.v404 i) rfl rfl rfl rfl rfl rfl rfl rfl j) rfl rfl rfl

/-- The word drawn for category 3. -/
theorem word3 (i : grid0.Coords) (j : S32x2048.Idx) :
    xori (addi (kernelRun0_A.sl.v708 i) kernelRun0_A.sl.v76) (addi (kernelRun0_A.sl.v714 i) (broadcast _ 5#32)) j
      = draw (kernelRun0_A.sl.v9 i j + 3#32) :=
  word_at (w := xori (addi (kernelRun0_A.sl.v708 i) kernelRun0_A.sl.v76) (addi (kernelRun0_A.sl.v714 i) (broadcast _ 5#32))) (g := kernelRun0_A.sl.v9 i) (v := 3#32)
    (z := broadcast _ 0#32) (x₁ := k0_pay125 (kernelRun0_A.sl.v9 i))
    rfl rfl rfl
    (roundsA_at (s₄ := kernelRun0_A.sl.v708 i) (y₄ := kernelRun0_A.sl.v714 i) rfl rfl rfl rfl rfl rfl rfl rfl j) rfl rfl
    (roundsB_at (s₄ := kernelRun0_A.sl.v675 i) (y₄ := kernelRun0_A.sl.v681 i) rfl rfl rfl rfl rfl rfl rfl rfl j) rfl
    (roundsA_at (s₄ := kernelRun0_A.sl.v644 i) (y₄ := kernelRun0_A.sl.v650 i) rfl rfl rfl rfl rfl rfl rfl rfl j) rfl rfl
    (roundsB_at (s₄ := kernelRun0_A.sl.v612 i) (y₄ := kernelRun0_A.sl.v618 i) rfl rfl rfl rfl rfl rfl rfl rfl j) rfl rfl
    (roundsA_at (s₄ := kernelRun0_A.sl.r_9 i) (y₄ := kernelRun0_A.sl.v585 i) rfl rfl rfl rfl rfl rfl rfl rfl j) rfl rfl rfl

end Cert.KerRead

end
-- ==== Proof.Block.lean ====
/-
  What the kernel leaves in one block of the result, element by element: the two pads of every row in the first and last
  200 columns and, between them, whether the row's category has the greatest score.
-/
module

public import proofs.«01_k».proof.Proof.KerThreefry
public import proofs.«01_k».proof.Proof.Model
public import Idealize.ShloMosaic.Lib.WholeRead
public import Idealize.ShloMosaic.Lib.Writes
public import Idealize.ShloMosaic.Lib.Pointwise

@[expose] public section

noncomputable section

namespace Cert.KerRead

open Idealize.ShloMosaic Cert.KernelIdeal Cert.KernelIdeal.Gen Cert.Threefry Cert.Model

/-- A pad row, spread over the 32 rows of a block. -/
theorem pad_at (w : FVec Ideal S1x200 .f32) (x : S32x1x200.Idx) : k0_pay171 w x = w (ix2 0 (x 2)) := by
  unfold k0_pay171
  pointwise

/-- A mark that is one where two scores agree. -/
def mark (g m : EReal) : EReal := FloatOps.sitofp (F := Ideal) .f32 (BitVec.setWidth 32 (BitVec.ofBool (decide (g = m))))

/-- The stored marks at an element. -/
theorem mark_at (w m : FVec Ideal S32x2048 .f32) (x : S32x1x2048.Idx) :
    k0_pay176 w m x = mark (w (ix2 (x 0) (x 2))) (m (ix2 (x 0) (x 2))) := by
  unfold k0_pay176 mark
  pointwise

/-- A category's scores at an element. -/
theorem score_at (w : IVec S32x2048 32) (t : FVec Ideal S32x1x2048 .f32) (x : S32x2048.Idx) :
    k0_pay75 (F := Ideal) w 9#32 t x = score (t (ix3 (x 0) 0 (x 1))) (w x) := by
  have e : IntOp.shrui ArithUnit.vector (w x) 9#32 = w x >>> 9#32 := if_pos (by decide)
  unfold k0_pay75 score unif
  pointwise
  rw [e]; rfl

/-- The first counter of an element: category 0's. -/
theorem base_at (i : grid0.Coords) (j : S32x2048.Idx) :
    kernelRun0_A.sl.v9 i j = BitVec.ofNat 32 (8192 * (32 * (i 0).val + (j 0).val) + 4 * (j 1).val) := by
  have e : kernelRun0_A.sl.v9 i j = (BitVec.ofNat 32 (i 0).val * 32#32 + BitVec.ofNat 32 (j 0).val) * 8192#32 + BitVec.ofNat 32 (j 1).val * 4#32 := by
    unfold kernelRun0_A.sl.v9 kernelRun0_A.sl.v6 kernelRun0_A.sl.v4 kernelRun0_A.sl.v3 kernelRun0_A.sl.v0 kernelRun0_A.sl.v1 kernelRun0_A.sl.v2
      kernelRun0_A.sl.v5 kernelRun0_A.sl.v7
    pointwise
    simp only [IntOp.addi, IntOp.muli, Scalar.muli]
  rw [e]
  apply BitVec.eq_of_toNat_eq
  simp only [BitVec.toNat_add, BitVec.toNat_mul, BitVec.toNat_ofNat]
  have h0 : (i 0).val < 128 := (i 0).isLt
  have h1 : (j 0).val < 32 := (j 0).isLt
  have h2 : (j 1).val < 2048 := (j 1).isLt
  omega

/-- A loaded row of logits is that row of the block. -/
theorem row_at {arg1 : Memref sig .tc .vmem S32x4x2048 .f32} (h : arg1.IsWhole) (x0 : FVec Ideal S32x4x2048 .f32) (v : Fin 4)
    (hb : ∀ a, (![0, v.val, 0] : Fin 3 → ℕ) a + S32x1x2048.size a ≤ S32x4x2048.size a) (x : S32x1x2048.Idx) :
    View.readAt (Elt Ideal) arg1.view (Rect.unit (s := S32x4x2048) ![0, v.val, 0] S32x1x2048.size hb).toLoadRect (h.unread x0) x = x0 (ix3 (x 0) v (x 2)) := by
  rw [h.readAt_unread]
  congr 1
  funext a
  apply Fin.ext
  match a with
  | ⟨0, _⟩ => show 0 + 1 * (x 0).val = (x 0).val; omega
  | ⟨1, _⟩ => show v.val + 1 * (x 1).val = v.val; have := (x 1).isLt; have e : S32x1x2048.size 1 = 1 := rfl; omega
  | ⟨2, _⟩ => show 0 + 1 * (x 2).val = (x 2).val; omega

/-- A loaded pad row is that row of the pad table. -/
theorem pad_row_at {arg : Memref sig .tc .vmem S4x200 .f32} (h : arg.IsWhole) (x1 : FVec Ideal S4x200 .f32) (v : Fin 4)
    (hb : ∀ a, (![v.val, 0] : Fin 2 → ℕ) a + S1x200.size a ≤ S4x200.size a) (x : S1x200.Idx) :
    View.readAt (Elt Ideal) arg.view (Rect.unit (s := S4x200) ![v.val, 0] S1x200.size hb).toLoadRect (h.unread x1) x = x1 (ix2 v (x 1)) := by
  rw [h.readAt_unread]
  congr 1
  funext a
  apply Fin.ext
  match a with
  | ⟨0, _⟩ => show v.val + 1 * (x 0).val = v.val; have := (x 0).isLt; have e : S1x200.size 0 = 1 := rfl; omega
  | ⟨1, _⟩ => show 0 + 1 * (x 1).val = (x 1).val; omega

/-- The score of category `v` at row `r` and column `l` of the block that grid point `i` computes from the logits `x0`. -/
def blockScore (i : grid0.Coords) (x0 : FVec Ideal S32x4x2048 .f32) (r : Fin 32) (l : Fin 2048) (v : Fin 4) : EReal :=
  score (x0 (ix3 r v l)) (draw (BitVec.ofNat 32 (8192 * (32 * (i 0).val + r.val) + 4 * l.val) + BitVec.ofNat 32 v.val))

/-- One element of the block that grid point `i` leaves: a pad of its row, or the mark of its category. -/
def blockOut (i : grid0.Coords) (x0 : FVec Ideal S32x4x2048 .f32) (x1 x2 : FVec Ideal S4x200 .f32) (y : S32x4x2448.Idx) : EReal :=
  if h : (y 2).val < 200 then x1 (ix2 (y 1) ⟨(y 2).val, h⟩)
  else if h' : (y 2).val < 2248 then
    mark (blockScore i x0 (y 0) ⟨(y 2).val - 200, by omega⟩ (y 1)) (top (blockScore i x0 (y 0) ⟨(y 2).val - 200, by omega⟩))
  else x2 (ix2 (y 1) ⟨(y 2).val - 2248, by have := (y 2).isLt; have e : S32x4x2448.size 2 = 2448 := rfl; omega⟩)

section

variable (i : grid0.Coords) (x0 : FVec Ideal S32x4x2048 .f32) (x1 x2 : FVec Ideal S4x200 .f32) {y : S32x4x2448.Idx}

/-- The block's first 200 columns. -/
theorem blockOut_front {v : Fin 4} {k : Fin 200} (hv : (y 1).val = v.val) (hk : (y 2).val = k.val) : blockOut i x0 x1 x2 y = x1 (ix2 v k) := by
  have e : y 1 = v := Fin.ext hv
  unfold blockOut
  rw [dif_pos (by omega), e]
  exact congrArg (fun z => x1 (ix2 v z)) (Fin.ext hk)

/-- The block's last 200 columns. -/
theorem blockOut_behind {v : Fin 4} {k : Fin 200} (hv : (y 1).val = v.val) (hk : (y 2).val = 2248 + k.val) : blockOut i x0 x1 x2 y = x2 (ix2 v k) := by
  have e : y 1 = v := Fin.ext hv
  unfold blockOut
  rw [dif_neg (by omega), dif_neg (by omega), e]
  exact congrArg (fun z => x2 (ix2 v z)) (Fin.ext (by show (y 2).val - 2248 = _; omega))

/-- The block's columns between. -/
theorem blockOut_mark {r : Fin 32} {v : Fin 4} {k : Fin 2048} (hr : (y 0).val = r.val) (hv : (y 1).val = v.val) (hk : (y 2).val = 200 + k.val) :
    blockOut i x0 x1 x2 y = mark (blockScore i x0 r k v) (top (blockScore i x0 r k)) := by
  have e : y 1 = v := Fin.ext hv
  have e0 : y 0 = r := Fin.ext hr
  unfold blockOut
  rw [dif_neg (by omega), dif_pos (by omega), e, e0]
  exact congrArg (fun z => mark (blockScore i x0 r z v) (top (blockScore i x0 r z))) (Fin.ext (by show (y 2).val - 200 = _; omega))

end

section

variable (c : Dev nD) (i : grid0.Coords) (arg1 : Memref sig .tc .vmem S32x4x2048 .f32) (h1 : arg1.IsWhole) (x0 : FVec Ideal S32x4x2048 .f32)

/-- Category 0's scores over the block. -/
theorem score0 (j : S32x2048.Idx) : kernelRun0_A.sl.r (F := Ideal) c i arg1 h1 x0 j = blockScore i x0 (j 0) (j 1) 0 := by
  have e := score_at (kernelRun0_A.sl.v176 i) (View.readAt (Elt Ideal) arg1.view (Rect.unit (s := S32x4x2048) ![0, 0, 0] S32x1x2048.size inb_S32x4x2048_S32x1x2048_0_0_0).toLoadRect (h1.unread x0)) j
  rw [word0, base_at] at e
  exact e.trans (congrArg (score · _) (row_at h1 x0 0 _ _))

/-- Category 1's scores over the block. -/
theorem score1 (j : S32x2048.Idx) : kernelRun0_A.sl.r_3 (F := Ideal) c i arg1 h1 x0 j = blockScore i x0 (j 0) (j 1) 1 := by
  have e := score_at (kernelRun0_A.sl.v357 i) (View.readAt (Elt Ideal) arg1.view (Rect.unit (s := S32x4x2048) ![0, 1, 0] S32x1x2048.size inb_S32x4x2048_S32x1x2048_0_1_0).toLoadRect (h1.unread x0)) j
  rw [word1, base_at] at e
  exact e.trans (congrArg (score · _) (row_at h1 x0 1 _ _))

/-- Category 2's scores over the block. -/
theorem score2 (j : S32x2048.Idx) : kernelRun0_A.sl.r_7 (F := Ideal) c i arg1 h1 x0 j = blockScore i x0 (j 0) (j 1) 2 := by
  have e := score_at (xori (kernelRun0_A.sl.v535 i) (addi (kernelRun0_A.sl.v533 i) kernelRun0_A.sl.v174)) (View.readAt (Elt Ideal) arg1.view (Rect.unit (s := S32x4x2048) ![0, 2, 0] S32x1x2048.size inb_S32x4x2048_S32x1x2048_0_2_0).toLoadRect (h1.unread x0)) j
  rw [word2, base_at] at e
  exact e.trans (congrArg (score · _) (row_at h1 x0 2 _ _))

/-- Category 3's scores over the block. -/
theorem score3 (j : S32x2048.Idx) : kernelRun0_A.sl.r_10 (F := Ideal) c i arg1 h1 x0 j = blockScore i x0 (j 0) (j 1) 3 := by
  have e := score_at (xori (addi (kernelRun0_A.sl.v708 i) kernelRun0_A.sl.v76) (addi (kernelRun0_A.sl.v714 i) (broadcast _ 5#32))) (View.readAt (Elt Ideal) arg1.view (Rect.unit (s := S32x4x2048) ![0, 3, 0] S32x1x2048.size inb_S32x4x2048_S32x1x2048_0_3_0).toLoadRect (h1.unread x0)) j
  rw [word3, base_at] at e
  exact e.trans (congrArg (score · _) (row_at h1 x0 3 _ _))

/-- The greatest scores over the block. -/
theorem top_at (j : S32x2048.Idx) : kernelRun0_A.sl.r_11 (F := Ideal) c i arg1 h1 x0 j = top (blockScore i x0 (j 0) (j 1)) := by
  have e : kernelRun0_A.sl.r_11 (F := Ideal) c i arg1 h1 x0 j = max (max (kernelRun0_A.sl.r (F := Ideal) c i arg1 h1 x0 j) (kernelRun0_A.sl.r_3 (F := Ideal) c i arg1 h1 x0 j))
      (max (kernelRun0_A.sl.r_7 (F := Ideal) c i arg1 h1 x0 j) (kernelRun0_A.sl.r_10 (F := Ideal) c i arg1 h1 x0 j)) := rfl
  rw [e, score0, score1, score2, score3]; rfl

variable (arg2 : Memref sig .tc .vmem S4x200 .f32) (h2 : arg2.IsWhole) (arg3 : Memref sig .tc .vmem S4x200 .f32) (h3 : arg3.IsWhole)
  (arg4 : Memref sig .tc .vmem S32x4x2448 .f32) (h4 : arg4.IsWhole) (x1 x2 : FVec Ideal S4x200 .f32)

/-- The pad in front of row `v`. -/
theorem front (v : Fin 4) (hb : ∀ a, (![v.val, 0] : Fin 2 → ℕ) a + S1x200.size a ≤ S4x200.size a)
    (hc : ∀ a, (![0, v.val, 0] : Fin 3 → ℕ) a + S32x1x200.size a ≤ S32x4x2448.size a) (x : S32x1x200.Idx) :
    k0_pay171 (View.readAt (Elt Ideal) arg2.view (Rect.unit (s := S4x200) ![v.val, 0] S1x200.size hb).toLoadRect (h2.unread x1)) x
      = blockOut i x0 x1 x2 ((Rect.unit (s := S32x4x2448) ![0, v.val, 0] S32x1x200.size hc).emb x) := by
  have l1 : (x 1).val < 1 := (x 1).isLt
  refine (pad_at _ x).trans ((pad_row_at h2 x1 v hb _).trans (blockOut_front i x0 x1 x2 ?_ ?_).symm)
  · show v.val + 1 * (x 1).val = v.val; omega
  · show 0 + 1 * (x 2).val = (x 2).val; omega

/-- The pad behind row `v`. -/
theorem behind (v : Fin 4) (hb : ∀ a, (![v.val, 0] : Fin 2 → ℕ) a + S1x200.size a ≤ S4x200.size a)
    (hc : ∀ a, (![0, v.val, 2248] : Fin 3 → ℕ) a + S32x1x200.size a ≤ S32x4x2448.size a) (x : S32x1x200.Idx) :
    k0_pay171 (View.readAt (Elt Ideal) arg3.view (Rect.unit (s := S4x200) ![v.val, 0] S1x200.size hb).toLoadRect (h3.unread x2)) x
      = blockOut i x0 x1 x2 ((Rect.unit (s := S32x4x2448) ![0, v.val, 2248] S32x1x200.size hc).emb x) := by
  have l1 : (x 1).val < 1 := (x 1).isLt
  refine (pad_at _ x).trans ((pad_row_at h3 x2 v hb _).trans (blockOut_behind i x0 x1 x2 ?_ ?_).symm)
  · show v.val + 1 * (x 1).val = v.val; omega
  · show 2248 + 1 * (x 2).val = 2248 + (x 2).val; omega

/-- The marks of row `v`. -/
theorem marks (v : Fin 4) (g m : FVec Ideal S32x2048 .f32) (hg : ∀ j, g j = blockScore i x0 (j 0) (j 1) v) (hm : ∀ j, m j = top (blockScore i x0 (j 0) (j 1)))
    (hc : ∀ a, (![0, v.val, 200] : Fin 3 → ℕ) a + S32x1x2048.size a ≤ S32x4x2448.size a) (x : S32x1x2048.Idx) :
    k0_pay176 g m x = blockOut i x0 x1 x2 ((Rect.unit (s := S32x4x2448) ![0, v.val, 200] S32x1x2048.size hc).emb x) := by
  have l1 : (x 1).val < 1 := (x 1).isLt
  rw [mark_at, hg, hm]
  refine (blockOut_mark i x0 x1 x2 ?_ ?_ ?_).symm
  · show 0 + 1 * (x 0).val = (x 0).val; omega
  · show v.val + 1 * (x 1).val = v.val; omega
  · show 200 + 1 * (x 2).val = 200 + (x 2).val; omega

/-- The block that a grid point leaves, at every element. -/
theorem out_at (y : S32x4x2448.Idx) : out0_A_3 (F := Ideal) c i arg1 h1 arg2 h2 arg3 h3 arg4 h4 x0 x1 x2 y = blockOut i x0 x1 x2 y := by
  refine View.read_writes_apply_of_pieces (Val := Elt Ideal) _ _ (blockOut i x0 x1 x2) _ ?_ y (cover0_A_3 (F := Ideal) c i arg1 h1 arg2 h2 arg3 h3 arg4 h4 x0 x1 x2 y)
  unfold kernelRun0_A
  dsimp only
  simp only [List.forall_mem_cons]
  refine ⟨behind i x0 arg3 h3 x1 x2 3 _ _, marks i x0 x1 x2 3 _ _ (score3 c i arg1 h1 x0) (top_at c i arg1 h1 x0) _, front i x0 arg2 h2 x1 x2 3 _ _,
    behind i x0 arg3 h3 x1 x2 2 _ _, marks i x0 x1 x2 2 _ _ (score2 c i arg1 h1 x0) (top_at c i arg1 h1 x0) _, front i x0 arg2 h2 x1 x2 2 _ _,
    behind i x0 arg3 h3 x1 x2 1 _ _, marks i x0 x1 x2 1 _ _ (score1 c i arg1 h1 x0) (top_at c i arg1 h1 x0) _, front i x0 arg2 h2 x1 x2 1 _ _,
    behind i x0 arg3 h3 x1 x2 0 _ _, marks i x0 x1 x2 0 _ _ (score0 c i arg1 h1 x0) (top_at c i arg1 h1 x0) _, front i x0 arg2 h2 x1 x2 0 _ _,
    fun _ h => absurd h List.not_mem_nil⟩

end

end Cert.KerRead

end

end
-- ==== Proof.KerRun.lean ====
/-
  The kernel's result array after the run, element by element, from the arguments as launched.
-/
module

public import proofs.«01_k».proof.Proof.Block
public import Idealize.ShloMosaic.Lib.Claim

@[expose] public section

noncomputable section

namespace Cert.KerRead

open Idealize.ShloMosaic Idealize.ShloMosaic.TcCoe Cert.KernelIdeal Cert.KernelIdeal.Gen Cert.Threefry Cert.Model

variable (m : (ℓ : Loc nD τ sig) → Buf (Elt Ideal) ℓ)

/-- Where the windows' blocks lie: the result's block `t` is rows `32 t` onwards, the logits' repeats every 32 points, the pad
    tables are whole. -/
theorem idx_facts : ∀ t : Fin cfg0.N, win0_3.index t (0 : Fin 3) = t.val ∧ win0_3.index t (1 : Fin 3) = 0 ∧ win0_3.index t (2 : Fin 3) = 0
    ∧ win0_0.index t (0 : Fin 3) = t.val % 32 ∧ win0_0.index t (1 : Fin 3) = 0 ∧ win0_0.index t (2 : Fin 3) = 0
    ∧ win0_1.index t (0 : Fin 2) = 0 ∧ win0_1.index t (1 : Fin 2) = 0 ∧ win0_2.index t (0 : Fin 2) = 0 ∧ win0_2.index t (1 : Fin 2) = 0
    ∧ (grid0.coords t 0).val = t.val :=
  (by decide +kernel : ∀ t : Fin grid0.N, _)

/-- A block of the logits. -/
theorem iblk0_at (c : Dev nD) (t : Fin cfg0.N) (r : Fin 32) (v : Fin 4) (l : Fin 2048) :
    iblk m c 0 t (ix3 r v l) = m ((c : Thread nD τ).loc main_arg0) (ix3 ⟨t.val % 32 * 32 + r.val, by omega⟩ v l) := by
  obtain ⟨_, _, _, e0, e1, e2, _⟩ := idx_facts t
  show V m c main_arg0 (((cfg0.win 0).blk t).view.emb (ix3 r v l)) = _
  rw [V_main_arg0]
  congr 1
  funext a; apply Fin.ext
  match a with
  | ⟨0, _⟩ => show win0_0.index t (0 : Fin 3) * 32 + 1 * r.val = t.val % 32 * 32 + r.val; omega
  | ⟨1, _⟩ => show win0_0.index t (1 : Fin 3) * 4 + 1 * v.val = v.val; omega
  | ⟨2, _⟩ => show win0_0.index t (2 : Fin 3) * 2048 + 1 * l.val = l.val; omega

/-- The staged pad table in front. -/
theorem iblk1_at (c : Dev nD) (t : Fin cfg0.N) (v : Fin 4) (k : Fin 200) :
    iblk m c 1 t (ix2 v k) = m ((c : Thread nD τ).loc main_arg1) (ix4 0 0 v k) := by
  obtain ⟨_, _, _, _, _, _, e0, e1, _⟩ := idx_facts t
  show V m c main_v2 (((cfg0.win 1).blk t).view.emb (ix2 v k)) = _
  rw [show ((cfg0.win 1).blk t).view.emb (ix2 v k) = ix2 v k from by
    funext a; apply Fin.ext
    match a with
    | ⟨0, _⟩ => show win0_1.index t (0 : Fin 2) * 4 + 1 * v.val = v.val; omega
    | ⟨1, _⟩ => show win0_1.index t (1 : Fin 2) * 200 + 1 * k.val = k.val; omega]
  entry_read
  pointwise
  refine congrArg (m (c, Proc.tc.devRef main_arg1)) ?_
  have hv := v.isLt
  have hk := k.isLt
  funext a; apply Fin.ext
  match a with
  | ⟨0, _⟩ => show (v.val * 200 + k.val) / 819200 = 0; omega
  | ⟨1, _⟩ => show (v.val * 200 + k.val) / 800 % 1024 = 0; omega
  | ⟨2, _⟩ => show (v.val * 200 + k.val) / 200 % 4 = v.val; omega
  | ⟨3, _⟩ => show (v.val * 200 + k.val) % 200 = k.val; omega

/-- The staged pad table behind. -/
theorem iblk2_at (c : Dev nD) (t : Fin cfg0.N) (v : Fin 4) (k : Fin 200) :
    iblk m c 2 t (ix2 v k) = m ((c : Thread nD τ).loc main_arg2) (ix4 0 0 v k) := by
  obtain ⟨_, _, _, _, _, _, _, _, e0, e1, _⟩ := idx_facts t
  show V m c main_v5 (((cfg0.win 2).blk t).view.emb (ix2 v k)) = _
  rw [show ((cfg0.win 2).blk t).view.emb (ix2 v k) = ix2 v k from by
    funext a; apply Fin.ext
    match a with
    | ⟨0, _⟩ => show win0_2.index t (0 : Fin 2) * 4 + 1 * v.val = v.val; omega
    | ⟨1, _⟩ => show win0_2.index t (1 : Fin 2) * 200 + 1 * k.val = k.val; omega]
  entry_read
  pointwise
  refine congrArg (m (c, Proc.tc.devRef main_arg2)) ?_
  have hv := v.isLt
  have hk := k.isLt
  funext a; apply Fin.ext
  match a with
  | ⟨0, _⟩ => show (v.val * 200 + k.val) / 819200 = 0; omega
  | ⟨1, _⟩ => show (v.val * 200 + k.val) / 800 % 1024 = 0; omega
  | ⟨2, _⟩ => show (v.val * 200 + k.val) / 200 % 4 = v.val; omega
  | ⟨3, _⟩ => show (v.val * 200 + k.val) % 200 = k.val; omega

/-- The kernel's score of category `v` at row `b` and column `l` of the result, from the logits `θ`. -/
def kscore (θ : FVec Ideal S1024x4x2048 .f32) (b : Fin 4096) (l : Fin 2048) (v : Fin 4) : EReal :=
  score (θ (ix3 ⟨b.val % 1024, Nat.mod_lt _ (by decide)⟩ v l)) (draw (BitVec.ofNat 32 (8192 * b.val + 4 * l.val) + BitVec.ofNat 32 v.val))

/-- A block's element of the result array is the same element of the block that its grid point left. -/
theorem arr_at (c : Dev nD) (t : Fin cfg0.N) (r : Fin 32) (v : Fin 4) (k : Fin 2448) :
    (dats m 0 c).arrAt 3 cfg0.N (ix3 ⟨t.val * 32 + r.val, by have := t.isLt; have e : cfg0.N = 128 := rfl; omega⟩ v k)
      = blockOut (grid0.coords t) (iblk m c 0 t) (iblk m c 1 t) (iblk m c 2 t) (ix3 r v k) := by
  have b := congrFun (Cert.KernelIdeal.Value.blocks3 m c t ((by decide +kernel : ∀ t : Fin grid0.N, (cfg0.win 3).flush t = true) t)) (ix3 r v k)
  rw [Cert.KernelIdeal.Value.flushed3_A] at b
  have b' : (dats m 0 c).arrAt 3 cfg0.N (((cfg0.win 3).blk t).view.emb (ix3 r v k)) = out0_A_3 c (grid0.coords t) (ms0_0 t) (hs0_0 t) (ms0_1 t) (hs0_1 t) (ms0_2 t) (hs0_2 t) (ms0_3 t) (hs0_3 t) (iblk m c 0 t) (iblk m c 1 t) (iblk m c 2 t) (ix3 r v k) := b
  rw [out_at] at b'
  refine Eq.trans (congrArg _ ?_) b'
  obtain ⟨e0, e1, e2, _⟩ := idx_facts t
  funext a; apply Fin.ext
  match a with
  | ⟨0, _⟩ => show t.val * 32 + r.val = win0_3.index t (0 : Fin 3) * 32 + 1 * r.val; omega
  | ⟨1, _⟩ => show v.val = win0_3.index t (1 : Fin 3) * 4 + 1 * v.val; omega
  | ⟨2, _⟩ => show k.val = win0_3.index t (2 : Fin 3) * 2448 + 1 * k.val; omega

/-- The same at a row of the result. -/
theorem arr_row (c : Dev nD) (b : Fin 4096) (v : Fin 4) (k : Fin 2448) : ∃ (t : Fin cfg0.N) (r : Fin 32), t.val * 32 + r.val = b.val ∧
    (dats m 0 c).arrAt 3 cfg0.N (ix3 b v k) = blockOut (grid0.coords t) (iblk m c 0 t) (iblk m c 1 t) (iblk m c 2 t) (ix3 r v k) := by
  have hb := b.isLt
  have e : b.val / 32 * 32 + b.val % 32 = b.val := by omega
  refine ⟨⟨b.val / 32, (by omega : b.val / 32 < 128)⟩, ⟨b.val % 32, by omega⟩, e, ?_⟩
  rw [← arr_at]
  exact congrArg (fun z => (dats m 0 c).arrAt 3 cfg0.N (ix3 z v k)) (Fin.ext e.symm)

/-- The result's first 200 columns: the first table of the front pads. -/
theorem result_front (c : Dev nD) (b : Fin 4096) (v : Fin 4) (k : Fin 200) :
    (dats m 0 c).arrAt 3 cfg0.N (ix3 b v ⟨k.val, by omega⟩) = m ((c : Thread nD τ).loc main_arg1) (ix4 0 0 v k) := by
  obtain ⟨t, r, _, e⟩ := arr_row m c b v ⟨k.val, by omega⟩
  exact e.trans ((blockOut_front _ _ _ _ rfl rfl).trans (iblk1_at m c t v k))

/-- The result's last 200 columns: the first table of the pads behind. -/
theorem result_behind (c : Dev nD) (b : Fin 4096) (v : Fin 4) (k : Fin 200) :
    (dats m 0 c).arrAt 3 cfg0.N (ix3 b v ⟨2248 + k.val, by omega⟩) = m ((c : Thread nD τ).loc main_arg2) (ix4 0 0 v k) := by
  obtain ⟨t, r, _, e⟩ := arr_row m c b v ⟨2248 + k.val, by omega⟩
  exact e.trans ((blockOut_behind _ _ _ _ rfl rfl).trans (iblk2_at m c t v k))

/-- The result's columns between: the mark of the category of the greatest score. -/
theorem result_mark (c : Dev nD) (b : Fin 4096) (v : Fin 4) (l : Fin 2048) :
    (dats m 0 c).arrAt 3 cfg0.N (ix3 b v ⟨200 + l.val, by omega⟩)
      = mark (kscore (m ((c : Thread nD τ).loc main_arg0)) b l v) (top (kscore (m ((c : Thread nD τ).loc main_arg0)) b l)) := by
  obtain ⟨t, r, h, e⟩ := arr_row m c b v ⟨200 + l.val, by omega⟩
  have hs : blockScore (grid0.coords t) (iblk m c 0 t) r l = kscore (m ((c : Thread nD τ).loc main_arg0)) b l := by
    obtain ⟨_, _, _, _, _, _, _, _, _, _, ec⟩ := idx_facts t
    funext w
    unfold blockScore kscore
    rw [iblk0_at, ec, show 32 * t.val + r.val = b.val by omega]
    have hr := r.isLt
    exact congrArg (fun z => score (m ((c : Thread nD τ).loc main_arg0) (ix3 z w l)) _) (Fin.ext (by show t.val % 32 * 32 + r.val = b.val % 1024; omega))
  have h2 := blockOut_mark (grid0.coords t) (iblk m c 0 t) (iblk m c 1 t) (iblk m c 2 t) (y := ix3 r v ⟨200 + l.val, by omega⟩) (r := r) (v := v) (k := l) rfl rfl rfl
  rw [hs] at h2
  exact e.trans h2

end Cert.KerRead

end

end
-- ==== Proof.Equal.lean ====
/-
  The two programs' results agree, element by element, where the precondition holds.
-/
module

public import proofs.«01_k».proof.Proof.Gap
public import proofs.«01_k».proof.Proof.PreAt
public import proofs.«01_k».proof.Proof.KerRun

@[expose] public section

noncomputable section

namespace Cert.Equal

open Idealize.ShloMosaic Cert.ReferenceIdeal Cert.Threefry Cert.Model Cert.RefRun Cert.RefRead Cert.PreRead Cert.Gap

/-- The kernel's mark is one where the two scores agree and zero elsewhere. -/
theorem mark_eq (g t : EReal) : Cert.KerRead.mark g t = (((if g = t then 1 else 0 : ℝ)) : EReal) := by
  unfold Cert.KerRead.mark
  by_cases h : g = t
  · rw [decide_eq_true h, if_pos h]
    show (((BitVec.setWidth 32 (1#1)).toInt : ℝ) : EReal) = _
    rw [show (BitVec.setWidth 32 (1#1)).toInt = 1 by decide]
    norm_num
  · rw [decide_eq_false h, if_neg h]
    show (((BitVec.setWidth 32 (0#1)).toInt : ℝ) : EReal) = _
    rw [show (BitVec.setWidth 32 (0#1)).toInt = 0 by decide]
    norm_num

/-- The kernel's score of a category, by sample and row. -/
theorem kscore_eq (θ : FVec Ideal S1024x4x2048 .f32) (b : Fin 4096) (l : Fin 2048) (v : Fin 4) :
    Cert.KerRead.kscore θ b l v = score (θ (ix3 ⟨b.val % 1024, by omega⟩ v l)) (word ⟨b.val / 1024, by omega⟩ ⟨b.val % 1024, by omega⟩ l v) := by
  unfold Cert.KerRead.kscore word
  rw [← BitVec.ofNat_add]
  refine congrArg (fun c => score _ (draw (BitVec.ofNat 32 c))) ?_
  show 8192 * b.val + 4 * l.val + v.val = 8388608 * (b.val / 1024) + 8192 * (b.val % 1024) + 4 * l.val + v.val
  omega

/-- A sampled element: the kernel's mark is the reference's straight-through sample. -/
theorem sample_eq (θ : FVec Ideal S1024x4x2048 .f32) (up down : FVec Ideal S4x1024x4x200 .f32)
    (h1 : (Cert.Pre_clear_winner.fn (F := Ideal) θ up down).1 = fun _ => 1#1)
    (h2 : (Cert.Pre_clear_winner.fn (F := Ideal) θ up down).2.1 = fun _ => 1#1)
    (b : Fin 4096) (v : Fin 4) (l : Fin 2048) :
    Cert.KerRead.mark (Cert.KerRead.kscore θ b l v) (top (Cert.KerRead.kscore θ b l))
      = straight θ (ix4 ⟨b.val / 1024, by omega⟩ ⟨b.val % 1024, by omega⟩ v l) := by
  have hk : Cert.KerRead.kscore θ b l = fun u => score (θ (ix3 ⟨b.val % 1024, by omega⟩ u l)) (word ⟨b.val / 1024, by omega⟩ ⟨b.val % 1024, by omega⟩ l u) :=
    funext (kscore_eq θ b l)
  rw [straight_at, hk]
  generalize (⟨b.val / 1024, by omega⟩ : Fin 4) = s
  generalize (⟨b.val % 1024, by omega⟩ : Fin 1024) = n
  have hx : ∀ u, θ (ix3 n u l) < ⊤ := fun u => Cert.PreAt.finite_at θ up down _ (congrFun h2 _)
  have hc := fun u => Cert.PreAt.clear_at θ up down s n l u (congrFun h1 _)
  simp only [noisy_at] at hc
  obtain ⟨v0, hW, hb, hg⟩ := clear_winner (fun u => θ (ix3 n u l)) (fun u => word s n l u) _ hx hc
  have ht : top (fun u => score (θ (ix3 n u l)) (word s n l u)) = score (θ (ix3 n v0 l)) (word s n l v0) :=
    top_is (g := fun u => score (θ (ix3 n u l)) (word s n l u)) fun u => by
      by_cases hu : u = v0
      · rw [hu]
      · exact (hg u hu).le
  obtain ⟨r, hr⟩ := share_real (fun u => θ (ix3 n u l)) hx hb v
  have hs : shares (powers θ) (ix3 n v l) = (r : EReal) := by
    rw [shares_at, powers_at]
    simp only [powers_at]
    exact hr
  rw [hs, cancel, ht, mark_eq]
  refine congrArg _ ?_
  by_cases hv : v = v0
  · rw [hv, if_pos rfl, ← hW, StableHlo.Predicate.cmpi_eq_iff.mpr rfl]
    norm_num
  · rw [if_neg (hg v hv).ne, (BitVec.eq_zero_or_eq_one _).resolve_right fun h => hv (code_inj ((StableHlo.Predicate.cmpi_eq_iff.mp h).symm.trans hW.symm))]
    norm_num

/-- The kernel's result array is the reference's result of the same arguments. -/
theorem result_eq (m : (ℓ : Loc Cert.KernelIdeal.nD Cert.KernelIdeal.τ Cert.KernelIdeal.sig) → Buf (Elt Ideal) ℓ) (c : Dev Cert.KernelIdeal.nD)
    (θ : FVec Ideal Cert.ReferenceIdeal.S1024x4x2048 .f32) (up down : FVec Ideal Cert.ReferenceIdeal.S4x1024x4x200 .f32)
    (e0 : m ((c.tc : Thread Cert.KernelIdeal.nD Cert.KernelIdeal.τ).loc Cert.KernelIdeal.main_arg0) = θ)
    (e1 : m ((c.tc : Thread Cert.KernelIdeal.nD Cert.KernelIdeal.τ).loc Cert.KernelIdeal.main_arg1) = up)
    (e2 : m ((c.tc : Thread Cert.KernelIdeal.nD Cert.KernelIdeal.τ).loc Cert.KernelIdeal.main_arg2) = down)
    (h1 : (Cert.Pre_clear_winner.fn (F := Ideal) θ up down).1 = fun _ => 1#1)
    (h2 : (Cert.Pre_clear_winner.fn (F := Ideal) θ up down).2.1 = fun _ => 1#1)
    (h3 : (Cert.Pre_clear_winner.fn (F := Ideal) θ up down).2.2.1 = fun _ => 1#1)
    (h4 : (Cert.Pre_clear_winner.fn (F := Ideal) θ up down).2.2.2 = fun _ => 1#1)
    (b : Fin 4096) (v : Fin 4) (k : Fin 2448) :
    (Cert.KernelIdeal.Gen.dats m 0 c).arrAt 3 Cert.KernelIdeal.cfg0.N (ix3 b v k) = result θ up down (ix3 b v k) := by
  have hk := k.isLt
  rw [result_at]
  by_cases a1 : k.val < 200
  · rw [dif_pos a1, Cert.PreAt.up_flat θ up down _ _ _ _ (congrFun h3 _), ← e1]
    exact Cert.KerRead.result_front m c b v ⟨k.val, a1⟩
  · rw [dif_neg a1]
    by_cases a2 : k.val - 200 < 2048
    · rw [dif_pos a2, ← sample_eq θ up down h1 h2, ← e0]
      refine Eq.trans (congrArg (fun z => (Cert.KernelIdeal.Gen.dats m 0 c).arrAt 3 Cert.KernelIdeal.cfg0.N (ix3 b v z)) (Fin.ext ?_))
        (Cert.KerRead.result_mark m c b v ⟨k.val - 200, a2⟩)
      show k.val = 200 + (k.val - 200)
      omega
    · rw [dif_neg a2, Cert.PreAt.down_flat θ up down _ _ _ _ (congrFun h4 _), ← e2]
      refine Eq.trans (congrArg (fun z => (Cert.KernelIdeal.Gen.dats m 0 c).arrAt 3 Cert.KernelIdeal.cfg0.N (ix3 b v z)) (Fin.ext ?_))
        (Cert.KerRead.result_behind m c b v ⟨k.val - 200 - 2048, by omega⟩)
      show k.val = 2248 + (k.val - 200 - 2048)
      omega

end Cert.Equal

end

end
-- ==== Proof.lean ====
/- The proof of the claim: three programs run and leave their arguments and their counters alone, the kernel's idealized
   reading keeps every operation, and the kernel's result is the reference's wherever the precondition holds. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_clear_winner
public import proofs.«01_k».proof.Proof.Gen.KernelIdeal.Value
public import proofs.«01_k».proof.Proof.Equal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference runs; its result is the plain function of its arguments, and these end unchanged. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v37)
        = Cert.RefRun.result (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  refine θ_run_mono (Cert.Line.Line.run Cert.RefRun.whole Cert.ReferenceIdeal.defs (by decide) (by decide) m g) ?_
  intro r hr c
  obtain ⟨hk, W, hQ, hW⟩ := hr c
  have k0 := hk Cert.ReferenceIdeal.main_arg0 (by decide)
  have k1 := hk Cert.ReferenceIdeal.main_arg1 (by decide)
  have k2 := hk Cert.ReferenceIdeal.main_arg2 (by decide)
  refine ⟨?_, k0, k1, k2⟩
  rw [hW, hQ, ← hW, ← hW, ← hW, k0, k1, k2]

/-- The reference leaves its arguments and its counters as they were. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  θ_run_mono (reference_run m g) fun r hr => ⟨fun c => (hr c).2, sem_eq_zero_of_no_sems rfl r.2⟩

/-- The kernel's result is the reference's, where the precondition holds. -/
theorem agree : Cert.algebraic_KernelIdeal_ReferenceIdeal_pre_clear_winner (hKernelIdeal := Cert.KernelIdeal.Gen.facts)
    (hReferenceIdeal := Cert.ReferenceIdeal.Gen.facts) (hPre_clear_winner := Cert.Pre_clear_winner.Gen.facts) := by
  intro m g m' g' hpre hagree
  refine ⟨fun c => (Cert.KernelIdeal.Gen.dats m 0 c).arrAt 3 Cert.KernelIdeal.cfg0.N, Cert.KernelIdeal.Value.run_blocks m g, ?_⟩
  refine θ_run_mono (reference_run m' g') fun r hr c => ⟨?_, (hr c).2⟩
  rw [(hr c).1]
  obtain ⟨h1, h2, h3, h4⟩ := hpre c
  obtain ⟨a0, a1, a2⟩ := hagree c
  rw [a0, a1, a2]
  funext i
  have hi : i = ix3 (i 0) (i 1) (i 2) := by
    funext a
    match a with
    | ⟨0, _⟩ => rfl
    | ⟨1, _⟩ => rfl
    | ⟨2, _⟩ => rfl
  rw [hi]
  exact (Cert.Equal.result_eq m c _ _ _ rfl rfl rfl h1 h2 h3 h4 (i 0) (i 1) (i 2)).symm

/-- Every claim of the certificate. -/
theorem claim : Cert.Claim :=
  ⟨Cert.Kernel.Gen.facts, Cert.KernelIdeal.Gen.facts, Cert.ReferenceIdeal.Gen.facts, Cert.Pre_clear_winner.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, agree⟩

end Cert.Proof

end

end
